-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_below_inf [hPre_inputs_below_inf : Cert.Pre_inputs_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_below_inf [hPre_inputs_below_inf : Cert.Pre_inputs_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_below_inf [hKernelIdeal : Cert.KernelIdeal.Facts] [hPre_inputs_below_inf : Cert.Pre_inputs_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_below_inf [hReferenceIdeal : Cert.ReferenceIdeal.Facts] [hPre_inputs_below_inf : Cert.Pre_inputs_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inhibition1" .f32 0x42B544ED#32 ((204091028222932875 / 2251799813685248 : ℝ) : EReal)
  ∧ IdealRules.named_const.Statement Cert.KernelIdeal.κ "decay" .f32 0x3F519857#32 ((7374471028957529 / 9007199254740992 : ℝ) : EReal)

def algebraic_KernelIdeal_ReferenceIdeal_pre_inputs_below_inf [hKernelIdeal : Cert.KernelIdeal.Facts] [hReferenceIdeal : Cert.ReferenceIdeal.Facts] [hPre_inputs_below_inf : Cert.Pre_inputs_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_below_inf : Cert.Pre_inputs_below_inf.Facts),
    quiescent_Kernel (hKernel := hKernel)
    ∧ quiescent_KernelIdeal (hKernelIdeal := hKernelIdeal)
    ∧ quiescent_KernelIdeal_pre_inputs_below_inf (hKernelIdeal := hKernelIdeal) (hPre_inputs_below_inf := hPre_inputs_below_inf)
    ∧ quiescent_ReferenceIdeal (hReferenceIdeal := hReferenceIdeal)
    ∧ quiescent_ReferenceIdeal_pre_inputs_below_inf (hReferenceIdeal := hReferenceIdeal) (hPre_inputs_below_inf := hPre_inputs_below_inf)
    ∧ preserves_Kernel_KernelIdeal
    ∧ algebraic_KernelIdeal_ReferenceIdeal_pre_inputs_below_inf (hKernelIdeal := hKernelIdeal) (hReferenceIdeal := hReferenceIdeal) (hPre_inputs_below_inf := hPre_inputs_below_inf)
-- ==== Pre_inputs_below_inf.lean ====
abbrev S128x100000 : Shape := ⟨2, ![128, 100000]⟩
abbrev S128x1 : Shape := ⟨2, ![128, 1]⟩
abbrev S128 : Shape := ⟨1, ![128]⟩
abbrev S_ : Shape := ⟨0, ![]⟩

class Facts : Prop where
  bcast_S_S128x100000 : S_.BroadcastsInDim S128x100000 (![] : Fin 0 → Fin S128x100000.rank)

variable [Facts]

def fn {F : FTy → Type} [FloatOps F] (main_arg0 : FVec F S128x100000 .f32) (main_arg1 : FVec F S128x1 .f32) (main_arg2 : FVec F S128x1 .f32) (main_arg3 : FVec F S128 .f32) (main_arg4 : FVec F S128x1 .f32) : IVec S128x100000 1 :=
  let main_cst : FVec F S_ .f32 := constant S_ .f32 0x7F800000#32
  let main_v0 : FVec F S128x100000 .f32 := broadcastInDim S128x100000 ![] bcast_S_S128x100000 main_cst
  let main_v1 : IVec S128x100000 1 := cmpf .olt main_arg0 main_v0
  main_v1
-- ==== Kernel.lean ====
abbrev S128x100000 : Shape := ⟨2, ![128, 100000]⟩
abbrev S128x1 : Shape := ⟨2, ![128, 1]⟩
abbrev S128 : Shape := ⟨1, ![128]⟩
abbrev S8x100000 : Shape := ⟨2, ![8, 100000]⟩
abbrev S8x1 : Shape := ⟨2, ![8, 1]⟩
abbrev S8 : Shape := ⟨1, ![8]⟩
abbrev S8x96 : Shape := ⟨2, ![8, 96]⟩
abbrev S8x100096 : Shape := ⟨2, ![8, 100096]⟩
abbrev S8x782x128 : Shape := ⟨3, ![8, 782, 128]⟩
abbrev S128x128 : Shape := ⟨2, ![128, 128]⟩
abbrev S8x782x1 : Shape := ⟨3, ![8, 782, 1]⟩
abbrev S8x782 : Shape := ⟨2, ![8, 782]⟩
abbrev S8x114 : Shape := ⟨2, ![8, 114]⟩
abbrev S8x896 : Shape := ⟨2, ![8, 896]⟩
abbrev S8x7x128 : Shape := ⟨3, ![8, 7, 128]⟩
abbrev S8x7x1 : Shape := ⟨3, ![8, 7, 1]⟩
abbrev S8x7 : Shape := ⟨2, ![8, 7]⟩

abbrev nBuf : Space → Nat
  | .hbm => 9
  | .vmem => 16
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S128x1, .f32⟩
  | .hbm, ⟨6, _⟩ => ⟨S128x100000, .f32⟩
  | .hbm, ⟨7, _⟩ => ⟨S128x1, .f32⟩
  | .hbm, ⟨8, _⟩ => ⟨S128x1, .f32⟩
  | .local _ .vmem, ⟨0, _⟩ => ⟨S8x100000, .f32⟩
  | .local _ .vmem, ⟨1, _⟩ => ⟨S8x100000, .f32⟩
  | .local _ .vmem, ⟨2, _⟩ => ⟨S8x1, .f32⟩
  | .local _ .vmem, ⟨3, _⟩ => ⟨S8x1, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x100000, .f32⟩
  | .local _ .vmem, ⟨11, _⟩ => ⟨S8x100000, .f32⟩
  | .local _ .vmem, ⟨12, _⟩ => ⟨S8x1, .f32⟩
  | .local _ .vmem, ⟨13, _⟩ => ⟨S8x1, .f32⟩
  | .local _ .vmem, ⟨14, _⟩ => ⟨S8x1, .f32⟩
  | .local _ .vmem, ⟨15, _⟩ => ⟨S8x1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x100000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "decay" => some ((7374471028957529 / 9007199254740992 : ℝ) : EReal)
  | "inhibition1" => some ((204091028222932875 / 2251799813685248 : ℝ) : EReal)
  | _ => none
-- ==== ReferenceIdeal.lean ====
abbrev S128x100000 : Shape := ⟨2, ![128, 100000]⟩
abbrev S128x1 : Shape := ⟨2, ![128, 1]⟩
abbrev S128 : Shape := ⟨1, ![128]⟩
abbrev S_ : Shape := ⟨0, ![]⟩
abbrev S1x100000 : Shape := ⟨2, ![1, 100000]⟩

abbrev nBuf : Space → Nat
  | .hbm => 122
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1, .f32⟩
  | .hbm, ⟨3, _⟩ => ⟨S128, .f32⟩
  | .hbm, ⟨4, _⟩ => ⟨S128x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S128x1, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x100000, .f32⟩
  | .hbm, ⟨43, _⟩ => ⟨S128x100000, .f32⟩
  | .hbm, ⟨44, _⟩ => ⟨S128x100000, .f32⟩
  | .hbm, ⟨45, _⟩ => ⟨S128x100000, .f32⟩
  | .hbm, ⟨46, _⟩ => ⟨S128x100000, .f32⟩
  | .hbm, ⟨47, _⟩ => ⟨S_, .f32⟩
  | .hbm, ⟨48, _⟩ => ⟨S128, .f32⟩
  | .hbm, ⟨49, _⟩ => ⟨S128x1, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .i1⟩
  | .hbm, ⟨54, _⟩ => ⟨S_, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S128x100000, .f32⟩
  | .hbm, ⟨59, _⟩ => ⟨S128x100000, .f32⟩
  | .hbm, ⟨60, _⟩ => ⟨S128x100000, .f32⟩
  | .hbm, ⟨61, _⟩ => ⟨S_, .f32⟩
  | .hbm, ⟨62, _⟩ => ⟨S128, .f32⟩
  | .hbm, ⟨63, _⟩ => ⟨S128x1, .f32⟩
  | .hbm, ⟨64, _⟩ => ⟨S128x1, .f32⟩
  | .hbm, ⟨65, _⟩ => ⟨S128x1, .f32⟩
  | .hbm, ⟨66, _⟩ => ⟨S128x1, .f32⟩
  | .hbm, ⟨67, _⟩ => ⟨S_, .f32⟩
  | .hbm, ⟨68, _⟩ => ⟨S128x1, .f32⟩
  | .hbm, ⟨69, _⟩ => ⟨S128x1, .f32⟩
  | .hbm, ⟨70, _⟩ => ⟨S128x1, .i1⟩
  | .hbm, ⟨71, _⟩ => ⟨S_, .f32⟩
  | .hbm, ⟨72, _⟩ => ⟨S128, .f32⟩
  | .hbm, ⟨73, _⟩ => ⟨S128x1, .f32⟩
  | .hbm, ⟨74, _⟩ => ⟨S128x100000, .f32⟩
  | .hbm, ⟨75, _⟩ => ⟨S128x100000, .f32⟩
  | .hbm, ⟨76, _⟩ => ⟨S_, .f32⟩
  | .hbm, ⟨77, _⟩ => ⟨S_, .f32⟩
  | .hbm, ⟨78, _⟩ => ⟨S128x100000, .f32⟩
  | .hbm, ⟨79, _⟩ => ⟨S128x1, .f32⟩
  | .hbm, ⟨80, _⟩ => ⟨S128x100000, .f32⟩
  | .hbm, ⟨81, _⟩ => ⟨S128x100000, .i1⟩
  | .hbm, ⟨82, _⟩ => ⟨S128x100000, .i8⟩
  | .hbm, ⟨83, _⟩ => ⟨S128x100000, .i32⟩
  | .hbm, ⟨84, _⟩ => ⟨S_, .i8⟩
  | .hbm, ⟨85, _⟩ => ⟨S_, .i32⟩
  | .hbm, ⟨86, _⟩ => ⟨S128, .i8⟩
  | .hbm, ⟨87, _⟩ => ⟨S128, .i32⟩
  | .hbm, ⟨88, _⟩ => ⟨S128x1, .i32⟩
  | .hbm, ⟨89, _⟩ => ⟨S1x100000, .i32⟩
  | .hbm, ⟨90, _⟩ => ⟨S128x100000, .i32⟩
  | .hbm, ⟨91, _⟩ => ⟨S128x100000, .i32⟩
  | .hbm, ⟨92, _⟩ => ⟨S128x100000, .i1⟩
  | .hbm, ⟨93, _⟩ => ⟨S128x100000, .f32⟩
  | .hbm, ⟨94, _⟩ => ⟨S128x1, .f32⟩
  | .hbm, ⟨95, _⟩ => ⟨S128x100000, .f32⟩
  | .hbm, ⟨96, _⟩ => ⟨S128x100000, .f32⟩
  | .hbm, ⟨97, _⟩ => ⟨S128x1, .f32⟩
  | .hbm, ⟨98, _⟩ => ⟨S_, .f32⟩
  | .hbm, ⟨99, _⟩ => ⟨S128x1, .f32⟩
  | .hbm, ⟨100, _⟩ => ⟨S128x1, .f32⟩
  | .hbm, ⟨101, _⟩ => ⟨S128x1, .f32⟩
  | .hbm, ⟨102, _⟩ => ⟨S128x1, .f32⟩
  | .hbm, ⟨103, _⟩ => ⟨S_, .f32⟩
  | .hbm, ⟨104, _⟩ => ⟨S128x1, .f32⟩
  | .hbm, ⟨105, _⟩ => ⟨S128x1, .f32⟩
  | .hbm, ⟨106, _⟩ => ⟨S_, .f32⟩
  | .hbm, ⟨107, _⟩ => ⟨S128x1, .f32⟩
  | .hbm, ⟨108, _⟩ => ⟨S128x1, .f32⟩
  | .hbm, ⟨109, _⟩ => ⟨S128x1, .f32⟩
  | .hbm, ⟨110, _⟩ => ⟨S_, .f32⟩
  | .hbm, ⟨111, _⟩ => ⟨S128x1, .f32⟩
  | .hbm, ⟨112, _⟩ => ⟨S128x1, .f32⟩
  | .hbm, ⟨113, _⟩ => ⟨S128x1, .f32⟩
  | .hbm, ⟨114, _⟩ => ⟨S128x1, .f32⟩
  | .hbm, ⟨115, _⟩ => ⟨S_, .f32⟩
  | .hbm, ⟨116, _⟩ => ⟨S128x1, .f32⟩
  | .hbm, ⟨117, _⟩ => ⟨S128x1, .f32⟩
  | .hbm, ⟨118, _⟩ => ⟨S_, .f32⟩
  | .hbm, ⟨119, _⟩ => ⟨S128x1, .f32⟩
  | .hbm, ⟨120, _⟩ => ⟨S128x1, .f32⟩
  | .hbm, ⟨121, _⟩ => ⟨S128x1, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_cst_2 : Ref sig .tc := ⟨.hbm, 10, rfl⟩
abbrev main_cst_3 : Ref sig .tc := ⟨.hbm, 11, rfl⟩
abbrev main_v2 : Ref sig .tc := ⟨.hbm, 12, rfl⟩
abbrev main_cst_4 : Ref sig .tc := ⟨.hbm, 13, rfl⟩
abbrev main_v3 : Ref sig .tc := ⟨.hbm, 14, rfl⟩
abbrev main_cst_5 : Ref sig .tc := ⟨.hbm, 15, rfl⟩
abbrev main_v4 : Ref sig .tc := ⟨.hbm, 16, rfl⟩
abbrev main_cst_6 : Ref sig .tc := ⟨.hbm, 17, rfl⟩
abbrev main_v5 : Ref sig .tc := ⟨.hbm, 18, rfl⟩
abbrev main_cst_7 : Ref sig .tc := ⟨.hbm, 19, rfl⟩
abbrev main_v6 : Ref sig .tc := ⟨.hbm, 20, rfl⟩
abbrev main_v7 : Ref sig .tc := ⟨.hbm, 21, rfl⟩
abbrev main_cst_8 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_9 : Ref sig .tc := ⟨.hbm, 27, rfl⟩
abbrev main_v12 : Ref sig .tc := ⟨.hbm, 28, rfl⟩
abbrev main_v13 : Ref sig .tc := ⟨.hbm, 29, rfl⟩
abbrev main_cst_10 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_11 : Ref sig .tc := ⟨.hbm, 35, rfl⟩
abbrev main_v18 : Ref sig .tc := ⟨.hbm, 36, rfl⟩
abbrev main_v19 : Ref sig .tc := ⟨.hbm, 37, rfl⟩
abbrev main_cst_12 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_13 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_14 : Ref sig .tc := ⟨.hbm, 51, rfl⟩
abbrev main_v31 : Ref sig .tc := ⟨.hbm, 52, rfl⟩
abbrev main_v32 : Ref sig .tc := ⟨.hbm, 53, rfl⟩
abbrev main_cst_15 : Ref sig .tc := ⟨.hbm, 54, rfl⟩
abbrev main_call0_v0 : Ref sig .tc := ⟨.hbm, 55, rfl⟩
abbrev main_call0_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_16 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_17 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_18 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_call0_cst : Ref sig .tc := ⟨.hbm, 76, rfl⟩
abbrev main_call1_call0_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_v0 : Ref sig .tc := ⟨.hbm, 83, rfl⟩
abbrev main_call2_c : Ref sig .tc := ⟨.hbm, 84, rfl⟩
abbrev main_call2_c_0 : Ref sig .tc := ⟨.hbm, 85, rfl⟩
abbrev main_call2_v1_0 : Ref sig .tc := ⟨.hbm, 86, rfl⟩
abbrev main_v54 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_19 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_20 : Ref sig .tc := ⟨.hbm, 103, rfl⟩
abbrev main_v64 : Ref sig .tc := ⟨.hbm, 104, rfl⟩
abbrev main_v65 : Ref sig .tc := ⟨.hbm, 105, rfl⟩
abbrev main_cst_21 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_22 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_v74 : Ref sig .tc := ⟨.hbm, 117, rfl⟩
abbrev main_cst_24 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩

abbrev nD : Nat := 1
abbrev τ : Topo := Topo.v7x

variable {F : FTy → Type} [FloatOps F]
-- ==== Proof.Running.lean ====
/- The running sums of the rows of a matrix, as the host's windowed sum has them: entry `(r, j)` is the sum of the
   entries `0` to `j` of row `r`. -/
module

public import Idealize.ShloMosaic.PureOps.Ideal
public import Idealize.ShloMosaic.Lib.ValueIdx
public import Mathlib.Algebra.BigOperators.Intervals

@[expose] public section

noncomputable section

namespace OU

open Idealize.ShloMosaic Idealize.ShloMosaic.ValueIdx

theorem foldl_add_eq_sum {n : ℕ} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, List.sum_ofFn.symm.trans (by rw [List.ofFn_eq_map])]

theorem numel_row (C : ℕ) : (⟨2, ![1, C]⟩ : Shape).numel = C := by
  show ∏ a : Fin 2, (![1, C] : Fin 2 → ℕ) a = C
  rw [Fin.prod_univ_two]; exact Nat.one_mul C

/-- Position `n` of a one-row window is its column `n`. -/
theorem row_symm {C : ℕ} (n : Fin (⟨2, ![1, C]⟩ : Shape).numel) :
    (⟨2, ![1, C]⟩ : Shape).rowMajor.symm n = ix2 (0 : Fin 1) (n.cast (numel_row C)) :=
  ((⟨2, ![1, C]⟩ : Shape).rowMajor.symm_apply_eq).2 (Fin.ext (by
    rw [Shape.rowMajor_val_two]
    show n.val = 0 * C + n.val
    omega))

/-- The entry `i` of row `r`, zero past the row's end. -/
def rowEntry {R C : ℕ} (x : (⟨2, ![R, C]⟩ : Shape).Idx → EReal) (r : Fin R) (i : ℕ) : EReal :=
  if h : i < C then x (ix2 r ⟨i, h⟩) else 0

/-- The last `j + 1` positions of a window of `C` are the entries `0` to `j`. -/
theorem sum_tail (f : ℕ → EReal) (m j : ℕ) (hj : j ≤ m) :
    ∑ n ∈ Finset.range (m + 1), (if m ≤ j + n then f (j + n - m) else 0) = ∑ i ∈ Finset.range (j + 1), f i := by
  have e : m + 1 = (m - j) + (j + 1) := by omega
  rw [e, Finset.sum_range_add]
  have h0 : ∑ n ∈ Finset.range (m - j), (if m ≤ j + n then f (j + n - m) else 0) = 0 :=
    Finset.sum_eq_zero fun n hn => by
      have := Finset.mem_range.1 hn
      rw [if_neg (by omega)]
  rw [h0, zero_add]
  refine Finset.sum_congr rfl fun n hn => ?_
  rw [if_pos (by omega)]
  congr 1; omega

/-- The running sums of the rows. -/
theorem running_apply {R C Cm1 : ℕ} (hC : Cm1 + 1 = C) (x : (⟨2, ![R, C]⟩ : Shape).Idx → EReal) {u : Shape} (init : u.Idx → EReal)
    (h : (⟨2, ![R, C]⟩ : Shape).ReduceWindows (![1, C] : Fin 2 → ℕ) ![1, 1] ![0, Cm1] ![0, 0] ⟨2, ![R, C]⟩)
    (hu : 0 < u.numel) (hinit : init (Shape.Idx.first hu) = 0) (r : Fin R) (j : Fin C) :
    Host.reduceWindow (· + ·) ![1, C] ![1, 1] ![0, Cm1] ![0, 0] x init h hu (ix2 r j)
      = ∑ i ∈ Finset.range (j.val + 1), rowEntry x r i := by
  subst hC
  have hj := j.isLt
  have hr := r.isLt
  unfold Host.reduceWindow
  refine (foldl_add_eq_sum _ _).trans ?_
  rw [hinit, zero_add, ← sum_tail (rowEntry x r) Cm1 j.val (by omega), Finset.sum_range]
  refine Fintype.sum_equiv (finCongr (numel_row (Cm1 + 1))) _ _ fun n => ?_
  have hn : n.val < Cm1 + 1 := (n.cast (numel_row _)).isLt
  have hw0 : ((⟨2, ![1, Cm1 + 1]⟩ : Shape).rowMajor.symm n 0).val = 0 := by rw [row_symm]; rfl
  have hw1 : ((⟨2, ![1, Cm1 + 1]⟩ : Shape).rowMajor.symm n 1).val = n.val := by rw [row_symm]; rfl
  show _ = if Cm1 ≤ j.val + n.val then rowEntry x r (j.val + n.val - Cm1) else 0
  dsimp only
  split
  · next hin =>
    have h1 := hin 1
    change Cm1 ≤ j.val * 1 + ((⟨2, ![1, Cm1 + 1]⟩ : Shape).rowMajor.symm n 1).val
      ∧ j.val * 1 + ((⟨2, ![1, Cm1 + 1]⟩ : Shape).rowMajor.symm n 1).val - Cm1 < Cm1 + 1 at h1
    rw [hw1] at h1
    rw [if_pos (by omega), rowEntry, dif_pos (by omega)]
    refine congrArg x (funext fun a => Fin.ext ?_)
    match a with
    | ⟨0, _⟩ =>
      show r.val * 1 + ((⟨2, ![1, Cm1 + 1]⟩ : Shape).rowMajor.symm n 0).val - 0 = r.val
      rw [hw0]; omega
    | ⟨1, _⟩ =>
      show j.val * 1 + ((⟨2, ![1, Cm1 + 1]⟩ : Shape).rowMajor.symm n 1).val - Cm1 = j.val + n.val - Cm1
      rw [hw1]; omega
  · next hin =>
    rw [if_neg fun hle => hin fun a => by
      match a with
      | ⟨0, _⟩ =>
        show 0 ≤ r.val * 1 + ((⟨2, ![1, Cm1 + 1]⟩ : Shape).rowMajor.symm n 0).val
          ∧ r.val * 1 + ((⟨2, ![1, Cm1 + 1]⟩ : Shape).rowMajor.symm n 0).val - 0 < R
        rw [hw0]; omega
      | ⟨1, _⟩ =>
        show Cm1 ≤ j.val * 1 + ((⟨2, ![1, Cm1 + 1]⟩ : Shape).rowMajor.symm n 1).val
          ∧ j.val * 1 + ((⟨2, ![1, Cm1 + 1]⟩ : Shape).rowMajor.symm n 1).val - Cm1 < Cm1 + 1
        rw [hw1]; omega]

end OU

end
-- ==== Proof.Consts.lean ====
/- The numbers the two programs name: each word used by them as the real number it stands for, and the two named
   constants. -/
module

public import Idealize.ShloMosaic.PureOps.Ideal
public import Mathlib.Tactic.NormNum

@[expose] public section

noncomputable section

namespace OU

open Idealize.ShloMosaic

/-- The decay of one step: the binary64 number nearest to `exp (-1/5)`, exactly. -/
def decayR : ℝ := 7374471028957529 / 9007199254740992

/-- The inhibition after the first step. -/
def inhR : ℝ := 204091028222932875 / 2251799813685248

/-- The logarithm of the time step, as its word has it. -/
def logDt : EReal := Ideal.ofBits .f32 0xC0DD0C55#32

theorem inhR_eq : inhR = 500 + (0 - 500) * decayR := by unfold inhR decayR; norm_num

theorem word_zero : Ideal.ofBits .f32 0x00000000#32 = 0 := by
  simp [Ideal.ofBits, Ideal.ieee]

theorem word_one : Ideal.ofBits .f32 0x3F800000#32 = ((1 : ℝ) : EReal) := by
  simp [Ideal.ofBits, Ideal.ieee, -EReal.coe_mul]; norm_num

theorem word_fifty : Ideal.ofBits .f32 0x42480000#32 = ((50 : ℝ) : EReal) := by
  simp [Ideal.ofBits, Ideal.ieee, -EReal.coe_mul]; norm_num

theorem word_fiveHundred : Ideal.ofBits .f32 0x43FA0000#32 = ((500 : ℝ) : EReal) := by
  simp [Ideal.ofBits, Ideal.ieee, -EReal.coe_mul]; norm_num

theorem word_thousand : Ideal.ofBits .f32 0x447A0000#32 = ((1000 : ℝ) : EReal) := by
  simp [Ideal.ofBits, Ideal.ieee, -EReal.coe_mul]; norm_num

theorem word_threeThousand : Ideal.ofBits .f32 0x453B8000#32 = ((3000 : ℝ) : EReal) := by
  simp [Ideal.ofBits, Ideal.ieee, -EReal.coe_mul]; norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-- The three words of the decay add up to the decay. -/
theorem decay_words :
    Ideal.ofBits .f32 0x3F519857#32 + Ideal.ofBits .f32 0xB29E99EA#32 + Ideal.ofBits .f32 0xA6600000#32
      = ((decayR : ℝ) : EReal) := by
  have h1 : Ideal.ofBits .f32 0x3F519857#32 = ((13736023 / 16777216 : ℝ) : EReal) := by
    simp [Ideal.ofBits, Ideal.ieee, -EReal.coe_mul]; norm_num
  have h2 : Ideal.ofBits .f32 0xB29E99EA#32 = ((-(5197045 / 281474976710656) : ℝ) : EReal) := by
    simp [Ideal.ofBits, Ideal.ieee, -EReal.coe_mul]; norm_num
  have h3 : Ideal.ofBits .f32 0xA6600000#32 = ((-(7 / 9007199254740992) : ℝ) : EReal) := by
    simp [Ideal.ofBits, Ideal.ieee, -EReal.coe_mul]; norm_num
  rw [h1, h2, h3, ← EReal.coe_add, ← EReal.coe_add]
  congr 1
  unfold decayR; norm_num

end OU

end
-- ==== Proof.LogSum.lean ====
/- The shifted logarithm of a sum of exponentials is the plain one: for entries below plus infinity, any real
   inhibition and any noise (an infinite one too). -/
module

public import Idealize.ShloMosaic.PureOps.Ideal
public import Mathlib.Analysis.SpecialFunctions.Log.Basic

@[expose] public section

noncomputable section

namespace OU

open Idealize.ShloMosaic

/-- The rate of an entry as a real number: its exponential, for an entry below plus infinity. -/
def rate (x : EReal) : ℝ := (Ideal.exp x).toReal

theorem exp_eq_rate {x : EReal} (h : x ≠ ⊤) : Ideal.exp x = ((rate x : ℝ) : EReal) := by
  induction x with
  | bot => simp [rate]
  | top => exact absurd rfl h
  | coe r => simp [rate]

theorem rate_nonneg (x : EReal) : 0 ≤ rate x := by
  induction x with
  | bot => simp [rate]
  | top => simp [rate]
  | coe r => simp [rate, Real.exp_nonneg]

theorem rate_eq_zero {x : EReal} (h : x ≠ ⊤) : rate x = 0 ↔ x = ⊥ := by
  induction x with
  | bot => simp [rate]
  | top => exact absurd rfl h
  | coe r => simp [rate, (Real.exp_pos r).ne']

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_nonneg (x : EReal) : 0 ≤ Ideal.exp x := by
  induction x with
  | bot => simp
  | top => simp
  | coe r => simp [Real.exp_nonneg]

/-- Shifting an entry scales its rate. -/
theorem exp_shift {x : EReal} (hx : x ≠ ⊤) (h ν c : ℝ) :
    Ideal.exp (x - h + ν - c) = ((rate x * Real.exp (ν - h - c) : ℝ) : EReal) := by
  induction x with
  | bot => simp [rate]
  | top => exact absurd rfl hx
  | coe r =>
    rw [← EReal.coe_sub, ← EReal.coe_add, ← EReal.coe_sub, Ideal.exp_coe]
    simp only [rate, Ideal.exp_coe, EReal.toReal_coe]
    rw [← Real.exp_add]; congr 2; ring

/-- The shift of the stable form, from the largest entry. -/
def shiftOf (M : EReal) : EReal := if M = ⊤ ∨ M = ⊥ then 0 else M

/-- The stable form of the logarithm of the total rate is the logarithm of the plain sum of the exponentials, less the
    inhibition, plus the noise. -/
theorem logSum_eq {N : ℕ} (x : Fin N → EReal) (hx : ∀ i, x i ≠ ⊤) (h : ℝ) (ν : EReal) (M : EReal)
    (hM : M = Finset.univ.sup fun i => x i - (h : EReal) + ν) :
    Ideal.log (∑ i, Ideal.exp (x i - h + ν - shiftOf M)) + shiftOf M
      = Ideal.log (((∑ i, rate (x i) : ℝ)) : EReal) - h + ν := by
  have hle : ∀ i, x i - h + ν ≤ M := fun i => hM ▸ Finset.le_sup (f := fun i => x i - (h : EReal) + ν) (Finset.mem_univ i)
  by_cases hall : ∀ i, x i - (h : EReal) + ν = ⊥
  · -- every entry of the shifted row is minus infinity
    have hMb : M = ⊥ := by rw [hM]; simpa [Finset.sup_eq_bot_iff] using hall
    have hs : shiftOf M = 0 := by simp [shiftOf, hMb]
    rw [hs]
    have : ∑ i, Ideal.exp (x i - h + ν - 0) = 0 := Finset.sum_eq_zero fun i _ => by rw [hall i]; simp
    rw [this]
    have hl0 : Ideal.log (0 : EReal) = ⊥ := by rw [← EReal.coe_zero, Ideal.log_coe, if_pos le_rfl]
    rw [hl0, EReal.bot_add]
    by_cases hν : ν = ⊥
    · rw [hν, EReal.add_bot]
    · have hxb : ∀ i, x i = ⊥ := fun i => by
        have := hall i
        rw [EReal.add_eq_bot_iff] at this
        rcases this with h1 | h1
        · have hxi := hx i
          generalize x i = y at *
          induction y with
          | bot => rfl
          | top => exact absurd rfl hxi
          | coe r => rw [← EReal.coe_sub] at h1; exact absurd h1 (EReal.coe_ne_bot _)
        · exact absurd h1 hν
      have : ∑ i, rate (x i) = 0 := Finset.sum_eq_zero fun i _ => by rw [hxb i]; simp [rate]
      rw [this, EReal.coe_zero, hl0, EReal.bot_sub, EReal.bot_add]
  · push Not at hall
    obtain ⟨k, hk⟩ := hall
    have hνb : ν ≠ ⊥ := fun e => hk (by rw [e, EReal.add_bot])
    have hxk : x k ≠ ⊥ := fun e => hk (by rw [e, EReal.bot_sub, EReal.bot_add])
    have hpos : 0 < ∑ i, rate (x i) :=
      Finset.sum_pos' (fun i _ => rate_nonneg _)
        ⟨k, Finset.mem_univ k, lt_of_le_of_ne (rate_nonneg _) fun e => hxk ((rate_eq_zero (hx k)).1 e.symm)⟩
    rw [Ideal.log_coe, if_neg hpos.not_ge]
    have hxr : ∃ r : ℝ, x k = r := ⟨(x k).toReal, (EReal.coe_toReal (hx k) hxk).symm⟩
    obtain ⟨r, hr⟩ := hxr
    by_cases hνt : ν = ⊤
    · -- the noise is plus infinity
      have hkt : x k - (h : EReal) + ν = ⊤ := by
        rw [hr, hνt, ← EReal.coe_sub]; exact EReal.coe_add_top _
      have hMt : M = ⊤ := top_le_iff.1 (hkt ▸ hle k)
      have hs : shiftOf M = 0 := by simp [shiftOf, hMt]
      rw [hs]
      have : ∑ i, Ideal.exp (x i - h + ν - 0) = ⊤ := by
        refine top_le_iff.1 (le_trans ?_ (Finset.single_le_sum (f := fun i => Ideal.exp (x i - h + ν - 0))
          (fun i _ => exp_nonneg _) (Finset.mem_univ k)))
        simp only [hkt]; simp
      rw [this, Ideal.log_top, hνt, ← EReal.coe_sub, EReal.coe_add_top]; rfl
    · -- the noise is real
      lift ν to ℝ using ⟨hνt, hνb⟩
      have hMt : M ≠ ⊤ := by
        rw [hM]; refine ne_of_lt ((Finset.sup_lt_iff bot_lt_top).2 fun i _ => lt_top_iff_ne_top.2 fun e => ?_)
        have hxi := hx i
        generalize x i = y at *
        induction y with
        | bot => simp at e
        | top => exact absurd rfl hxi
        | coe r => rw [← EReal.coe_sub, ← EReal.coe_add] at e; exact absurd e (EReal.coe_ne_top _)
      have hMb : M ≠ ⊥ := fun e => hk (le_bot_iff.1 (e ▸ hle k))
      have hs : shiftOf M = M := by simp [shiftOf, hMt, hMb]
      rw [hs]
      clear hM hle hs
      lift M to ℝ using ⟨hMt, hMb⟩
      have : ∑ i, Ideal.exp (x i - h + ν - M) = (((∑ i, rate (x i)) * Real.exp (ν - h - M) : ℝ) : EReal) := by
        rw [Finset.sum_mul, coe_sum]
        exact Finset.sum_congr rfl fun i _ => exp_shift (hx i) h ν M
      rw [this, Ideal.log_coe, if_neg (mul_pos hpos (Real.exp_pos _)).not_ge, Real.log_mul hpos.ne' (Real.exp_pos _).ne',
        Real.log_exp, ← EReal.coe_add, ← EReal.coe_sub, ← EReal.coe_add]
      congr 1; ring

end OU

end
-- ==== Proof.First.lean ====
/- The first place of a row where a condition holds: the count from which it is found when the condition, once true,
   stays true; and the scan of a row that keeps the first largest entry. -/
module

public import proofs.«01_k».proof.ReferenceIdeal
public import Mathlib.Order.Interval.Finset.Fin
public import Mathlib.Order.ConditionallyCompleteLattice.Finset
public import Mathlib.Order.Lattice.Nat

@[expose] public section

noncomputable section

namespace OU

open Idealize.ShloMosaic

/-- The first place where `P` holds, zero where it holds nowhere. -/
def firstPlace {N : ℕ} (P : Fin N → Prop) : ℕ := sInf {n | ∃ h : n < N, P ⟨n, h⟩}

theorem firstPlace_of_none {N : ℕ} {P : Fin N → Prop} (h : ∀ i, ¬ P i) : firstPlace P = 0 := by
  unfold firstPlace
  have : {n | ∃ h : n < N, P ⟨n, h⟩} = ∅ := Set.eq_empty_iff_forall_notMem.2 fun n ⟨hn, hp⟩ => h _ hp
  rw [this, Nat.sInf_empty]

theorem firstPlace_eq {N : ℕ} {P : Fin N → Prop} (p : Fin N) (hp : P p) (hmin : ∀ i, i < p → ¬ P i) :
    firstPlace P = p.val := by
  unfold firstPlace
  refine le_antisymm (Nat.sInf_le ⟨p.isLt, hp⟩) (le_csInf ⟨p.val, p.isLt, hp⟩ ?_)
  rintro n ⟨hn, hpn⟩
  by_contra hlt
  exact hmin ⟨n, hn⟩ (Fin.lt_def.2 (not_le.1 hlt)) hpn

theorem firstPlace_lt {N : ℕ} (hN : 0 < N) (P : Fin N → Prop) : firstPlace P < N := by
  by_cases h : ∃ i, P i
  · obtain ⟨i, hi⟩ := h
    exact lt_of_le_of_lt (Nat.sInf_le ⟨i.isLt, hi⟩) i.isLt
  · push Not at h; rw [firstPlace_of_none h]; exact hN

open Classical in
/-- Where the condition, once true, stays true, the first place is the length less the number of places where it
    holds, or zero where it holds nowhere. -/
theorem firstPlace_of_count {N : ℕ} (P : Fin N → Prop) (hmono : ∀ i j, i ≤ j → P i → P j) :
    firstPlace P = if N ≤ N - (Finset.univ.filter P).card then 0 else N - (Finset.univ.filter P).card := by
  by_cases h : ∃ i, P i
  · obtain ⟨i, hi⟩ := h
    set S : Finset (Fin N) := Finset.univ.filter P
    have hS : S.Nonempty := ⟨i, by simp [S, hi]⟩
    set p := S.min' hS
    have hp : P p := (Finset.mem_filter.1 (S.min'_mem hS)).2
    have hmin : ∀ i, i < p → ¬ P i := fun i hip hPi =>
      absurd (S.min'_le i (by simp [S, hPi])) (not_le.2 hip)
    have hSI : S = Finset.Ici p := by
      ext k
      simp only [S, Finset.mem_filter, Finset.mem_univ, true_and, Finset.mem_Ici]
      exact ⟨fun hk => not_lt.1 fun hlt => hmin k hlt hk, fun hk => hmono p k hk hp⟩
    have hcard : S.card = N - p.val := by rw [hSI, Fin.card_Ici]
    rw [firstPlace_eq p hp hmin, hcard]
    have := p.isLt
    rw [if_neg (by omega)]; omega
  · push Not at h
    rw [firstPlace_of_none h]
    have : Finset.univ.filter P = ∅ := Finset.filter_eq_empty_iff.2 fun i _ => h i
    rw [this]; simp

/-! ## The scan that keeps the first largest entry -/

open Cert.ReferenceIdeal in
/-- A zero entry later than the kept zero changes nothing. -/
theorem step_zero_zero (q : BitVec 32) (hq : (0#32).slt q = true ∨ q = 0#32) :
    reducer_argmax_i8_i32 (0#8, 0#32) (0#8, q) = (0#8, 0#32) := by
  rcases hq with h | h
  · simp [reducer_argmax_i8_i32, IntOp.cmpi, IntOp.ori, IntOp.andi, Scalar.select, h]
  · subst h; rfl

open Cert.ReferenceIdeal in
/-- The first one replaces the kept zero. -/
theorem step_zero_one (p q : BitVec 32) : reducer_argmax_i8_i32 (0#8, p) (1#8, q) = (1#8, q) := by
  simp [reducer_argmax_i8_i32, IntOp.cmpi, IntOp.ori, IntOp.andi, Scalar.select]

open Cert.ReferenceIdeal in
/-- A later zero never replaces a kept one. -/
theorem step_one_zero (p q : BitVec 32) : reducer_argmax_i8_i32 (1#8, p) (0#8, q) = (1#8, p) := by
  simp [reducer_argmax_i8_i32, IntOp.cmpi, IntOp.ori, IntOp.andi, Scalar.select]

open Cert.ReferenceIdeal in
/-- A later one does not replace a kept one. -/
theorem step_one_one (p q : BitVec 32) (h : p.slt q = true) : reducer_argmax_i8_i32 (1#8, p) (1#8, q) = (1#8, p) := by
  simp [reducer_argmax_i8_i32, IntOp.cmpi, IntOp.ori, IntOp.andi, Scalar.select, h]

theorem toInt_small {p : ℕ} (hp : p ≤ 100000) : (BitVec.ofNat 32 p).toInt = p := by
  have hn : (BitVec.ofNat 32 p).toNat = p := by rw [BitVec.toNat_ofNat]; exact Nat.mod_eq_of_lt (by omega)
  rw [BitVec.toInt_eq_toNat_of_lt (by rw [hn]; omega), hn]

theorem slt_ofNat {p q : ℕ} (hpq : p < q) (hq : q < 100000) : (BitVec.ofNat 32 p).slt (BitVec.ofNat 32 q) = true := by
  simp only [BitVec.slt, toInt_small (show p ≤ 100000 by omega), toInt_small (show q ≤ 100000 by omega), decide_eq_true_eq]
  omega

open Classical in
/-- One where `Q` holds, zero elsewhere, with its place. -/
def marked (Q : ℕ → Prop) (n : ℕ) : BitVec 8 × BitVec 32 := (if Q n then 1#8 else 0#8, BitVec.ofNat 32 n)

open Cert.ReferenceIdeal in
/-- Once a one is kept, entries of later places leave it. -/
theorem fold_kept (Q : ℕ → Prop) (p : ℕ) (l : List ℕ) (hl : ∀ n ∈ l, p < n ∧ n < 100000) :
    (l.map (marked Q)).foldl reducer_argmax_i8_i32 (1#8, BitVec.ofNat 32 p) = (1#8, BitVec.ofNat 32 p) := by
  induction l with
  | nil => rfl
  | cons n l ih =>
    rw [List.map_cons, List.foldl_cons]
    have hn := hl n (by simp)
    have : reducer_argmax_i8_i32 (1#8, BitVec.ofNat 32 p) (marked Q n) = (1#8, BitVec.ofNat 32 p) := by
      unfold marked
      split
      · exact step_one_one _ _ (slt_ofNat hn.1 hn.2)
      · exact step_one_zero _ _
    rw [this]
    exact ih fun m hm => hl m (by simp [hm])

open Cert.ReferenceIdeal in
/-- The scan of increasing places ends at the first one where `Q` holds, or at zero. -/
theorem fold_first (Q : ℕ → Prop) (l : List ℕ) (hs : l.Pairwise (· < ·)) (hl : ∀ n ∈ l, n < 100000) :
    ((∀ n ∈ l, ¬ Q n) ∧ (l.map (marked Q)).foldl reducer_argmax_i8_i32 (0#8, 0#32) = (0#8, 0#32))
    ∨ ∃ p ∈ l, Q p ∧ (∀ n ∈ l, n < p → ¬ Q n)
        ∧ (l.map (marked Q)).foldl reducer_argmax_i8_i32 (0#8, 0#32) = (1#8, BitVec.ofNat 32 p) := by
  induction l with
  | nil => exact Or.inl ⟨by simp, rfl⟩
  | cons n l ih =>
    rw [List.pairwise_cons] at hs
    have hn := hl n (by simp)
    by_cases hQ : Q n
    · refine Or.inr ⟨n, by simp, hQ, ?_, ?_⟩
      · intro m hm hmn
        rcases List.mem_cons.1 hm with rfl | hm
        · omega
        · have := hs.1 m hm; omega
      · rw [List.map_cons, List.foldl_cons]
        have : reducer_argmax_i8_i32 (0#8, 0#32) (marked Q n) = (1#8, BitVec.ofNat 32 n) := by
          unfold marked; rw [if_pos hQ]; exact step_zero_one _ _
        rw [this]
        exact fold_kept Q n l fun m hm => ⟨hs.1 m hm, hl m (by simp [hm])⟩
    · have hstep : reducer_argmax_i8_i32 (0#8, 0#32) (marked Q n) = (0#8, 0#32) := by
        unfold marked; rw [if_neg hQ]
        refine step_zero_zero _ ?_
        rcases Nat.eq_zero_or_pos n with h0 | h0
        · right; rw [h0]
        · left; exact slt_ofNat h0 hn
      rw [List.map_cons, List.foldl_cons, hstep]
      rcases ih hs.2 fun m hm => hl m (by simp [hm]) with ⟨h1, h2⟩ | ⟨p, hp, hQp, hmin, h2⟩
      · refine Or.inl ⟨fun m hm => ?_, h2⟩
        rcases List.mem_cons.1 hm with rfl | hm
        · exact hQ
        · exact h1 m hm
      · refine Or.inr ⟨p, by simp [hp], hQp, fun m hm hmp => ?_, h2⟩
        rcases List.mem_cons.1 hm with rfl | hm
        · exact hQ
        · exact hmin m hm hmp

end OU

end
-- ==== Proof.Row.lean ====
/- What one row of the problem gives, stated over its entries: the running sums of the rates, the class drawn, whether
   the row spikes, and the three results. Both programs are shown to compute these. -/
module

public import proofs.«01_k».proof.Proof.Consts
public import proofs.«01_k».proof.Proof.LogSum
public import proofs.«01_k».proof.Proof.First
public import Mathlib.Algebra.BigOperators.Fin

@[expose] public section

noncomputable section

namespace OU

open Idealize.ShloMosaic

/-- The rate at place `i` of a row, zero past the row's end. -/
def rateAt (x : Fin 100000 → EReal) (i : ℕ) : ℝ := if h : i < 100000 then rate (x ⟨i, h⟩) else 0

/-- The sum of the first `n` rates of a row. -/
def runs (x : Fin 100000 → EReal) (n : ℕ) : ℝ := ∑ i ∈ Finset.range n, rateAt x i

/-- The sum of all rates of a row. -/
def total (x : Fin 100000 → EReal) : ℝ := ∑ i, rate (x i)

theorem total_eq_runs (x : Fin 100000 → EReal) : total x = runs x 100000 := by
  unfold total runs
  rw [Finset.sum_range]
  exact Finset.sum_congr rfl fun i _ => by rw [rateAt, dif_pos i.isLt]

theorem rateAt_nonneg (x : Fin 100000 → EReal) (i : ℕ) : 0 ≤ rateAt x i := by
  unfold rateAt; split
  · exact rate_nonneg _
  · exact le_rfl

theorem runs_mono (x : Fin 100000 → EReal) {m n : ℕ} (h : m ≤ n) : runs x m ≤ runs x n :=
  Finset.sum_le_sum_of_subset_of_nonneg (Finset.range_mono h) fun i _ _ => rateAt_nonneg x i

theorem total_nonneg (x : Fin 100000 → EReal) : 0 ≤ total x := Finset.sum_nonneg fun i _ => rate_nonneg _

/-- Whether the running sum has reached the drawn share of the total at place `j`. -/
def reachedAt (x : Fin 100000 → EReal) (r : EReal) (j : Fin 100000) : Prop :=
  r * ((total x : ℝ) : EReal) ≤ ((runs x (j.val + 1) : ℝ) : EReal)

/-- The class drawn: the first one whose running sum has reached the drawn share (the first class where none has). -/
def drawn (x : Fin 100000 → EReal) (r : EReal) : ℕ := firstPlace (reachedAt x r)

/-- The noise after the first step. -/
def noiseOf (n : EReal) : EReal := ((1000 : ℝ) : EReal) + ((50 : ℝ) : EReal) * n

/-- Whether a row spikes. -/
def spikesOf (x : Fin 100000 → EReal) (n u : EReal) : Prop :=
  Ideal.log u < Ideal.log ((total x : ℝ) : EReal) - ((inhR : ℝ) : EReal) + noiseOf n + logDt

open Classical in
/-- One where `P` holds, else zero. -/
def bit (P : Prop) : EReal := if P then 1 else 0

/-- The first result at class `j` of a row. -/
def outSpike (x : Fin 100000 → EReal) (n u r : EReal) (j : Fin 100000) : EReal :=
  bit (j.val = drawn x r) * bit (spikesOf x n u)

/-- The second result of a row. -/
def outInhibition (x : Fin 100000 → EReal) (n u : EReal) : EReal :=
  ((500 + (inhR - 500) * decayR : ℝ) : EReal) + bit (spikesOf x n u) * ((3000 : ℝ) : EReal)

/-- The third result of a row. -/
def outNoise (n n2 : EReal) : EReal :=
  ((1000 : ℝ) : EReal) + (noiseOf n - ((1000 : ℝ) : EReal)) * ((decayR : ℝ) : EReal) + ((50 : ℝ) : EReal) * n2

theorem reachedAt_mono (x : Fin 100000 → EReal) (r : EReal) (i j : Fin 100000) (hij : i ≤ j) (h : reachedAt x r i) :
    reachedAt x r j :=
  le_trans h (EReal.coe_le_coe_iff.2 (runs_mono x (by have := Fin.le_def.1 hij; omega)))

/-- The probability at place `i` of a row, zero past the row's end. -/
def probAt (x : Fin 100000 → EReal) (i : ℕ) : EReal :=
  if h : i < 100000 then Ideal.div (Ideal.exp (x ⟨i, h⟩)) ((total x : ℝ) : EReal) else 0

theorem mul_le_iff_le_div (r : EReal) {s : ℝ} (hs : 0 < s) (a : ℝ) :
    r ≤ ((a / s : ℝ) : EReal) ↔ r * (s : EReal) ≤ (a : EReal) := by
  induction r with
  | bot => simp [EReal.bot_mul_coe_of_pos hs]
  | top =>
    rw [EReal.top_mul_coe_of_pos hs]
    simp only [top_le_iff]
    exact ⟨fun e => absurd e (EReal.coe_ne_top _), fun e => absurd e (EReal.coe_ne_top _)⟩
  | coe r =>
    rw [← EReal.coe_mul, EReal.coe_le_coe_iff, EReal.coe_le_coe_iff, le_div_iff₀ hs]

/-- The class the running probabilities draw is the class the running rates draw. -/
theorem drawn_eq (x : Fin 100000 → EReal) (hx : ∀ i, x i ≠ ⊤) (r : EReal) :
    firstPlace (fun j : Fin 100000 => r ≤ ∑ i ∈ Finset.range (j.val + 1), probAt x i) = drawn x r := by
  unfold drawn
  rcases (total_nonneg x).eq_or_lt with h0 | hpos
  · -- every rate is zero: the first class either way
    have hz : ∀ i, rate (x i) = 0 := fun i =>
      (Finset.sum_eq_zero_iff_of_nonneg fun i _ => rate_nonneg (x i)).1 h0.symm i (Finset.mem_univ i)
    have hp : ∀ i, i < 100000 → probAt x i = ⊥ := fun i hi => by
      rw [probAt, dif_pos hi, exp_eq_rate (hx _), hz, ← h0]
      simp [Ideal.div]
    have hs : ∀ j : Fin 100000, ∑ i ∈ Finset.range (j.val + 1), probAt x i = ⊥ := fun j => by
      rw [Finset.sum_range_succ, hp j.val j.isLt, EReal.add_bot]
    have hR : firstPlace (reachedAt x r) = 0 := by
      refine firstPlace_eq (⟨0, by omega⟩ : Fin 100000) ?_ fun i hi => absurd (Fin.lt_def.1 hi) (by simp)
      unfold reachedAt
      rw [← h0, EReal.coe_zero, mul_zero]
      exact EReal.coe_nonneg.2 (Finset.sum_nonneg fun i _ => rateAt_nonneg x i)
    rw [hR]
    by_cases hr : r = ⊥
    · exact firstPlace_eq (⟨0, by omega⟩ : Fin 100000) (by rw [hr]; exact bot_le)
        fun i hi => absurd (Fin.lt_def.1 hi) (by simp)
    · exact firstPlace_of_none fun j => by rw [hs j]; simpa using hr
  · congr 1
    funext j
    have : ∑ i ∈ Finset.range (j.val + 1), probAt x i = ((runs x (j.val + 1) / total x : ℝ) : EReal) := by
      unfold runs
      rw [Finset.sum_div, coe_sum]
      refine Finset.sum_congr rfl fun i hi => ?_
      have hi' : i < 100000 := by have := Finset.mem_range.1 hi; have := j.isLt; omega
      rw [probAt, dif_pos hi', rateAt, dif_pos hi', exp_eq_rate (hx _), Ideal.div_coe hpos.ne', ← EReal.coe_mul]
      congr 1; ring
    rw [this, eq_iff_iff]
    exact mul_le_iff_le_div r hpos _

end OU

end
-- ==== Proof.Tiles.lean ====
/- Re-laid arrays read at one place, at any sizes: rows padded with zeros, rows cut into chunks and joined again, the last
   lane of each chunk, a column repeated along the lanes, and the product with a triangle of ones. -/
module

public import proofs.«01_k».proof.Proof.Running
public import proofs.«01_k».proof.Proof.Row
public import Idealize.ShloMosaic.Lib.Pipeline.Value
public import Idealize.ShloMosaic.PureOps.Ideal.Laws

@[expose] public section

noncomputable section

namespace OU

open Idealize.ShloMosaic Idealize.ShloMosaic.ValueIdx

/-- Rows with zeros appended. -/
theorem padded_apply {B N Z M : ℕ} (x : (⟨2, ![B, N]⟩ : Shape).Idx → EReal) (z : (⟨2, ![B, Z]⟩ : Shape).Idx → EReal)
    (h : Shape.Concatenates [(⟨2, ![B, N]⟩ : Shape), ⟨2, ![B, Z]⟩] ⟨2, ![B, M]⟩ 1) (hM : M = N + Z) (hz : ∀ i, z i = 0)
    (b : Fin B) (k : Fin M) :
    concatenate (⟨2, ![B, M]⟩ : Shape) 1 [⟨⟨2, ![B, N]⟩, x⟩, ⟨⟨2, ![B, Z]⟩, z⟩] h (ix2 b k) = rowEntry x b k.val := by
  have hk := k.isLt
  unfold rowEntry
  by_cases hlt : k.val < N
  · rw [dif_pos hlt]
    refine concatenate_pair_apply_left (s₁ := ⟨2, ![B, N]⟩) (s₂ := ⟨2, ![B, Z]⟩) (t := ⟨2, ![B, M]⟩) 1 x z h (ix2 b k) rfl
      (ix2 b ⟨k.val, hlt⟩) fun a => ?_
    match a with
    | ⟨0, _⟩ => rfl
    | ⟨1, _⟩ => rfl
  · rw [dif_neg hlt]
    refine (concatenate_pair_apply_right (s₁ := ⟨2, ![B, N]⟩) (s₂ := ⟨2, ![B, Z]⟩) (t := ⟨2, ![B, M]⟩) 1 x z h (ix2 b k) rfl rfl
      (ix2 b (⟨k.val - N, by omega⟩ : Fin Z)) (fun a ha => ?_) ?_).trans (hz _)
    · match a with
      | ⟨0, _⟩ => rfl
      | ⟨1, _⟩ => exact absurd rfl ha
    · show k.val - N + N = k.val
      omega

/-- A row cut into chunks. -/
theorem split_apply {α : Type} {B C L M : ℕ} (x : (⟨2, ![B, M]⟩ : Shape).Idx → α)
    (h : (⟨2, ![B, M]⟩ : Shape).ShapeCasts ⟨3, ![B, C, L]⟩) (hM : M = C * L) (b : Fin B) (c : Fin C) (l : Fin L) (k : Fin M)
    (hk : k.val = c.val * L + l.val) :
    shapeCast (⟨3, ![B, C, L]⟩ : Shape) x h (ix3 b c l) = x (ix2 b k) :=
  shapeCast_apply x h (ix3 b c l) (ix2 b k) (by
    rw [Shape.rowMajor_val_two, Shape.rowMajor_val_three]
    show b.val * M + k.val = (b.val * C + c.val) * L + l.val
    rw [hk, hM]; ring)

/-- Chunks joined to a row. -/
theorem join_apply {α : Type} {B C L M : ℕ} (x : (⟨3, ![B, C, L]⟩ : Shape).Idx → α)
    (h : (⟨3, ![B, C, L]⟩ : Shape).ShapeCasts ⟨2, ![B, M]⟩) (hM : M = C * L) (b : Fin B) (c : Fin C) (l : Fin L) (k : Fin M)
    (hk : k.val = c.val * L + l.val) :
    shapeCast (⟨2, ![B, M]⟩ : Shape) x h (ix2 b k) = x (ix3 b c l) :=
  shapeCast_apply x h (ix2 b k) (ix3 b c l) (by
    rw [Shape.rowMajor_val_two, Shape.rowMajor_val_three]
    show (b.val * C + c.val) * L + l.val = b.val * M + k.val
    rw [hk, hM]; ring)

/-- One lane of each chunk. -/
theorem lane_apply {α : Type} {B C L o : ℕ} (x : (⟨3, ![B, C, L]⟩ : Shape).Idx → α)
    (hs : (⟨3, ![B, C, L]⟩ : Shape).Slices ![0, 0, o] ⟨3, ![B, C, 1]⟩)
    (hc : (⟨3, ![B, C, 1]⟩ : Shape).ShapeCasts ⟨2, ![B, C]⟩) (ho : o < L) (b : Fin B) (c : Fin C) :
    shapeCast (⟨2, ![B, C]⟩ : Shape) (extractStridedSlice (⟨3, ![B, C, 1]⟩ : Shape) ![0, 0, o] x hs) hc (ix2 b c)
      = x (ix3 b c ⟨o, ho⟩) := by
  rw [join_apply (L := 1) _ hc (by ring) b c (0 : Fin 1) c (by simp)]
  refine extractStridedSlice_apply _ x hs _ _ fun a => ?_
  match a with
  | ⟨0, _⟩ => exact (Nat.zero_add _).symm
  | ⟨1, _⟩ => exact (Nat.zero_add _).symm
  | ⟨2, _⟩ => rfl

/-- One number per chunk, repeated along its lanes. -/
theorem repeat_apply {α : Type} {B C L : ℕ} (x : (⟨2, ![B, C]⟩ : Shape).Idx → α)
    (hc : (⟨2, ![B, C]⟩ : Shape).ShapeCasts ⟨3, ![B, C, 1]⟩)
    (hb : (⟨3, ![B, C, 1]⟩ : Shape).Broadcasts ⟨3, ![B, C, L]⟩) (b : Fin B) (c : Fin C) (l : Fin L) :
    broadcastTo (⟨3, ![B, C, L]⟩ : Shape) (shapeCast (⟨3, ![B, C, 1]⟩ : Shape) x hc) hb (ix3 b c l) = x (ix2 b c) := by
  rw [broadcastTo_apply _ hb (ix3 b c l) (ix3 b c (0 : Fin 1)) fun a => by
    match a with
    | ⟨0, _⟩ =>
      show b.val = if B = 1 then 0 else b.val
      split
      · have := b.isLt; omega
      · rfl
    | ⟨1, _⟩ =>
      show c.val = if C = 1 then 0 else c.val
      split
      · have := c.isLt; omega
      · rfl
    | ⟨2, _⟩ => rfl]
  exact split_apply (L := 1) x hc (by ring) b c (0 : Fin 1) c (by simp)

/-- The first entries of each row. -/
theorem first_apply {α : Type} {B N M : ℕ} (x : (⟨2, ![B, M]⟩ : Shape).Idx → α)
    (hs : (⟨2, ![B, M]⟩ : Shape).Slices ![0, 0] ⟨2, ![B, N]⟩) (b : Fin B) (k : Fin N) (k' : Fin M) (hk : k'.val = k.val) :
    extractStridedSlice (⟨2, ![B, N]⟩ : Shape) ![0, 0] x hs (ix2 b k) = x (ix2 b k') := by
  refine extractStridedSlice_apply _ x hs _ _ fun a => ?_
  match a with
  | ⟨0, _⟩ => exact (Nat.zero_add _).symm
  | ⟨1, _⟩ => exact hk.trans (Nat.zero_add _).symm

/-- One column of a matrix. -/
theorem column_apply {α : Type} {B M o : ℕ} (x : (⟨2, ![B, M]⟩ : Shape).Idx → α)
    (hs : (⟨2, ![B, M]⟩ : Shape).Slices ![0, o] ⟨2, ![B, 1]⟩) (b : Fin B) (ho : o < M) :
    extractStridedSlice (⟨2, ![B, 1]⟩ : Shape) ![0, o] x hs (ix2 b (0 : Fin 1)) = x (ix2 b ⟨o, ho⟩) := by
  refine extractStridedSlice_apply _ x hs _ _ fun a => ?_
  match a with
  | ⟨0, _⟩ => exact (Nat.zero_add _).symm
  | ⟨1, _⟩ => rfl

/-- Seven columns side by side. -/
theorem seven_apply {B : ℕ} (p : Fin 7 → (⟨2, ![B, 1]⟩ : Shape).Idx → EReal)
    (h : Shape.Concatenates [(⟨2, ![B, 1]⟩ : Shape), ⟨2, ![B, 1]⟩, ⟨2, ![B, 1]⟩, ⟨2, ![B, 1]⟩, ⟨2, ![B, 1]⟩, ⟨2, ![B, 1]⟩, ⟨2, ![B, 1]⟩]
      ⟨2, ![B, 7]⟩ 1) (b : Fin B) (g : Fin 7) :
    concatenate (⟨2, ![B, 7]⟩ : Shape) 1 [⟨⟨2, ![B, 1]⟩, p 0⟩, ⟨⟨2, ![B, 1]⟩, p 1⟩, ⟨⟨2, ![B, 1]⟩, p 2⟩, ⟨⟨2, ![B, 1]⟩, p 3⟩,
      ⟨⟨2, ![B, 1]⟩, p 4⟩, ⟨⟨2, ![B, 1]⟩, p 5⟩, ⟨⟨2, ![B, 1]⟩, p 6⟩] h (ix2 b g) = p g (ix2 b (0 : Fin 1)) :=
  concatenate_ofFn_unit_apply (t := ⟨2, ![B, 7]⟩) (s₁ := ⟨2, ![B, 1]⟩) 1 p h rfl rfl (ix2 b g) g rfl (ix2 b (0 : Fin 1)) fun a ha => by
    match a with
    | ⟨0, _⟩ => rfl
    | ⟨1, _⟩ => exact absurd rfl ha

/-- The product of each chunk with a matrix. -/
theorem product_apply {B C K N : ℕ}
    (w : DotDims.WF ⟨3, ![B, C, K]⟩ ⟨2, ![K, N]⟩ ⟨3, ![B, C, N]⟩ [2] [0] [0, 1] [1] [] [])
    (prec : Option ContractPrecision) (x : FVec Ideal ⟨3, ![B, C, K]⟩ .f32) (y : FVec Ideal ⟨2, ![K, N]⟩ .f32)
    (b : Fin B) (c : Fin C) (l : Fin N) :
    FloatOps.matmul (⟨[2], [0], [0, 1], [1], [], [], w⟩ : DotDims _ _ _) prec x y (constant _ .f32 0x00000000#32) (ix3 b c l)
      = ∑ k : Fin K, x (ix3 b c k) * y (ix2 k l) := by
  rw [Ideal.matmul_constant_zero_apply,
    ← Equiv.sum_comp (contrEquiv1 (⟨[2], [0], [0, 1], [1], [], [], w⟩ : DotDims _ _ _) K rfl rfl).symm]
  refine Finset.sum_congr rfl fun k _ => ?_
  have c3 := contrEquiv1_symm_val
    (⟨[2], [0], [0, 1], [1], [], [], w⟩ : DotDims ⟨3, ![B, C, K]⟩ ⟨2, ![K, N]⟩ ⟨3, ![B, C, N]⟩) K rfl rfl k
  have l3 : (⟨[2], [0], [0, 1], [1], [], [], w⟩ : DotDims ⟨3, ![B, C, K]⟩ ⟨2, ![K, N]⟩ ⟨3, ![B, C, N]⟩).lhsIdx (ix3 b c l)
      ((contrEquiv1 _ K rfl rfl).symm k) = ix3 b c k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![B, C, K]⟩ ⟨2, ![K, N]⟩ ⟨3, ![B, C, N]⟩).rhsIdx (ix3 b c l)
      ((contrEquiv1 _ K rfl rfl).symm k) = ix2 k l := by
    funext ax; apply Fin.ext
    match ax with
    | ⟨0, _⟩ => simp [DotDims.rhsIdx]; exact c3
    | ⟨1, _⟩ => simp [DotDims.rhsIdx]; rfl
  rw [l3, r3]

/-- The sum of the entries up to `l`, as a sum over all entries against the triangle of ones. -/
theorem triangle_sum {K : ℕ} (f : ℕ → ℝ) (t : Fin K → EReal) (l : ℕ) (hl : l < K)
    (ht : ∀ k : Fin K, t k = if k.val ≤ l then ((1 : ℝ) : EReal) else ((0 : ℝ) : EReal)) :
    ∑ k : Fin K, ((f k.val : ℝ) : EReal) * t k = ((∑ i ∈ Finset.range (l + 1), f i : ℝ) : EReal) := by
  have e : ∀ k : Fin K, ((f k.val : ℝ) : EReal) * t k = (((if k.val ≤ l then f k.val else 0) : ℝ) : EReal) := fun k => by
    rw [ht k]
    split
    · rw [← EReal.coe_mul, mul_one]
    · rw [← EReal.coe_mul, mul_zero]
  simp only [e]
  rw [← coe_sum, ← Finset.sum_range fun k => if k ≤ l then f k else 0]
  congr 1
  rw [← Finset.sum_filter]
  refine Finset.sum_congr ?_ fun _ _ => rfl
  ext i
  simp only [Finset.mem_filter, Finset.mem_range]
  omega

/-- Sums of blocks of `L` add up to the sum of the entries. -/
theorem sum_blocks (f : ℕ → ℝ) (L g : ℕ) :
    ∑ h ∈ Finset.range g, ∑ i ∈ Finset.range L, f (h * L + i) = ∑ i ∈ Finset.range (g * L), f i := by
  induction g with
  | zero => simp
  | succ g ih => rw [Finset.sum_range_succ, ih, Nat.succ_mul, Finset.sum_range_add]

end OU

end
-- ==== Proof.RefTerms.lean ====
/- What the reference computes, line by line: each definition is one array of the reference's text as a function of
   the arrays it is computed from. -/
module

public import proofs.«01_k».proof.Proof.Gen.ReferenceIdeal
public import Idealize.ShloMosaic.Lib.StableHlo.Run

@[expose] public section

noncomputable section

namespace OU.Ref

open Cert.ReferenceIdeal Cert.ReferenceIdeal.Gen Idealize.ShloMosaic

variable {F : FTy → Type} [FloatOps F]

/-- A scalar word as a column of 128 equal entries. -/
def col1 (w : BitVec 32) : FVec F S128x1 .f32 := broadcastInDim S128x1 ![] bcast_S_S128x1 (constant S_ .f32 w)

/-- A vector of 128 entries as a column. -/
def colOf {α : Type} (v : S128.Idx → α) : S128x1.Idx → α := broadcastInDim S128x1 ![0] bcast_S128_S128x1_0 v

/-- A column repeated along the 100000 classes. -/
def wide {α : Type} (v : S128x1.Idx → α) : S128x100000.Idx → α :=
  broadcastInDim S128x100000 ![0, 1] bcast_S128x1_S128x100000_0_1 v

/-- The sums of the rows of a matrix. -/
def rowSum (x : FVec F S128x100000 .f32) : FVec F S128 .f32 :=
  Host.reduceAdd x (constant S_ .f32 0x00000000#32) reducesTo_S128x100000_S128_d1 h_S_

/-- The decay as the sum of its three words. -/
def decay : FVec F S_ .f32 :=
  addf (addf (constant S_ .f32 0x3F519857#32) (constant S_ .f32 0xB29E99EA#32)) (constant S_ .f32 0xA6600000#32)

/-- The decay as a column. -/
def decayCol : FVec F S128x1 .f32 := broadcastInDim S128x1 ![] bcast_S_S128x1 decay

/-- The inhibition after the first step. -/
def inhibition : FVec F S128x1 .f32 :=
  addf (col1 0x43FA0000#32) (mulf (subf (col1 0x00000000#32) (col1 0x43FA0000#32)) decayCol)

/-- The noise after the first step. -/
def noise (n : FVec F S128x1 .f32) : FVec F S128x1 .f32 :=
  addf (addf (col1 0x447A0000#32)
    (mulf (subf (mulf (col1 0x3F800000#32) (col1 0x447A0000#32)) (col1 0x447A0000#32)) decayCol))
    (mulf (col1 0x42480000#32) n)

/-- The logarithms of the rates. -/
def logRates (x : FVec F S128x100000 .f32) (n : FVec F S128x1 .f32) : FVec F S128x100000 .f32 :=
  addf (subf x (wide inhibition)) (wide (noise n))

/-- The largest entry of each row. -/
def rowMax (l : FVec F S128x100000 .f32) : FVec F S128x1 .f32 :=
  colOf (Host.reduce FloatOps.maximumf l (constant S_ .f32 0xFF800000#32) reducesTo_S128x100000_S128_d1 h_S_)

/-- The shift of the stable logarithm of a sum: the row's largest entry where it is finite, zero elsewhere. -/
def shift (l : FVec F S128x100000 .f32) : FVec F S128x1 .f32 :=
  select (cmpf .olt (Host.absf (rowMax l)) (col1 0x7F800000#32)) (rowMax l) (col1 0x00000000#32)

/-- The logarithm of the sum of a row's exponentials. -/
def logSumExp (l : FVec F S128x100000 .f32) : FVec F S128x1 .f32 :=
  addf (Host.log (colOf (rowSum (Host.exp (subf l (wide (shift l))))))) (shift l)

/-- Whether each row spikes. -/
def spiked (x : FVec F S128x100000 .f32) (n u : FVec F S128x1 .f32) : IVec S128x1 1 :=
  cmpf .olt (Host.log u) (addf (logSumExp (logRates x n)) (col1 0xC0DD0C55#32))

/-- The probabilities of a row's classes. -/
def probs (x : FVec F S128x100000 .f32) : FVec F S128x100000 .f32 :=
  Host.divf (Host.exp x) (wide (colOf (rowSum (Host.exp x))))

/-- The running sums of each row. -/
def running (p : FVec F S128x100000 .f32) : FVec F S128x100000 .f32 :=
  Host.reduceWindowAdd ![1, 100000] ![1, 1] ![0, 99999] ![0, 0] p
    (broadcastInDim S_ ![] bcast_S_S_ (constant S_ .f32 0x00000000#32))
    reduceWindows_S128x100000_S128x100000_w1s1p0_0_w100000s1p99999_0 h_S_

/-- One at the classes whose running sum has reached the drawn number, zero elsewhere. -/
def reached (c : FVec F S128x100000 .f32) (r : FVec F S128 .f32) : IVec S128x100000 8 :=
  extui 8 (cmpf .oge c (wide (colOf r))) natLt_1_8

/-- The first largest entry of each row. -/
def firstMax (b : IVec S128x100000 8) : IVec S128 32 := fun j =>
  (Host.reduce2 reducer_argmax_i8_i32 b (iotaInDim S128x100000 32 1) (constantI S_ 8 0#8) (constantI S_ 32 0#32)
    reducesTo_S128x100000_S128_d1 h_S_ j).2

/-- One at the named class of each row, zero elsewhere. -/
def oneHot (k : IVec S128 32) : FVec F S128x100000 .f32 :=
  uitofp .f32 (cmpi .eq (wide (colOf k))
    (broadcastInDim S128x100000 ![0, 1] bcast_S1x100000_S128x100000_0_1 (iotaInDim S1x100000 32 1)))

/-- The first result: the drawn class of each row that spikes. -/
def spikes (x : FVec F S128x100000 .f32) (n u : FVec F S128x1 .f32) (r : FVec F S128 .f32) : FVec F S128x100000 .f32 :=
  mulf (oneHot (firstMax (reached (running (probs x)) r))) (wide (uitofp .f32 (spiked x n u)))

/-- The second result: the inhibition after the second step. -/
def inhibition2 (x : FVec F S128x100000 .f32) (n u : FVec F S128x1 .f32) : FVec F S128x1 .f32 :=
  addf (addf (col1 0x43FA0000#32) (mulf (subf inhibition (col1 0x43FA0000#32)) decayCol))
    (mulf (uitofp .f32 (spiked x n u)) (col1 0x453B8000#32))

/-- The third result: the noise after the second step. -/
def noise2 (n n2 : FVec F S128x1 .f32) : FVec F S128x1 .f32 :=
  addf (addf (col1 0x447A0000#32) (mulf (subf (noise n) (col1 0x447A0000#32)) decayCol)) (mulf (col1 0x42480000#32) n2)

end OU.Ref

end
-- ==== Proof.RefPlaces.lean ====
/- The reference's arrays read at one place: the columns, the repeated columns, the sums and the largest entries of the
   rows. -/
module

public import proofs.«01_k».proof.Proof.RefTerms
public import proofs.«01_k».proof.Proof.Row
public import Idealize.ShloMosaic.Lib.ValueIdx
public import Idealize.ShloMosaic.Lib.IdealHost
public import Idealize.ShloMosaic.Lib.Pipeline.Value

@[expose] public section

noncomputable section

namespace OU.Ref

open Cert.ReferenceIdeal Cert.ReferenceIdeal.Gen Idealize.ShloMosaic Idealize.ShloMosaic.ValueIdx

theorem col1_apply (w : BitVec 32) (j : S128x1.Idx) : col1 (F := Ideal) w j = Ideal.ofBits .f32 w := by
  unfold col1
  rw [broadcastInDim_scalar_apply]
  rfl

theorem colOf_apply {α : Type} (v : S128.Idx → α) (r : Fin 128) : colOf v (ix2 r (0 : Fin 1)) = v (ix1 r) :=
  broadcastInDim_apply _ _ _ _ _ fun a => by match a with | ⟨0, _⟩ => rfl

theorem wide_apply {α : Type} (v : S128x1.Idx → α) (r : Fin 128) (j : Fin 100000) :
    wide v (ix2 r j) = v (ix2 r (0 : Fin 1)) :=
  broadcastInDim_apply _ _ _ _ _ fun a => by
    match a with
    | ⟨0, _⟩ => rfl
    | ⟨1, _⟩ => rfl

/-- The rows of a 128 × 100000 matrix, their classes summed away. -/
theorem rows_reduce : S128x100000.Reduces [1] S128 := by decide

theorem rows_lift (r : Fin 128) (k : Fin 100000) : rows_reduce.lift (ix1 r) k = ix2 r k := by
  funext a
  match a with
  | ⟨0, _⟩ => rfl
  | ⟨1, _⟩ => rfl

theorem rowSum_apply (x : FVec Ideal S128x100000 .f32) (r : Fin 128) :
    rowSum x (ix1 r) = ∑ k : Fin 100000, x (ix2 r k) := by
  refine (Ideal.hostReduceAdd_single reducesTo_S128x100000_S128_d1 rows_reduce x _ (ix1 r)).trans ?_
  rw [show (constant (F := Ideal) S_ .f32 0x00000000#32) (Shape.Idx.first h_S_) = Ideal.ofBits .f32 0x00000000#32 from rfl, word_zero, zero_add]
  exact Finset.sum_congr rfl fun k _ => congrArg x (rows_lift r k)

theorem rowMax_apply (l : FVec Ideal S128x100000 .f32) (r : Fin 128) :
    rowMax l (ix2 r (0 : Fin 1)) = Finset.univ.sup fun k : Fin 100000 => l (ix2 r k) := by
  unfold rowMax
  rw [colOf_apply, Host.reduce_eq_fold_single FloatOps.maximumf l _ reducesTo_S128x100000_S128_d1 rows_reduce h_S_ (ix1 r)]
  rw [show (constant (F := Ideal) S_ .f32 0xFF800000#32) (Shape.Idx.first h_S_) = Ideal.ofBits .f32 0xFF800000#32 from rfl, word_bot]
  unfold Finset.sup
  refine Finset.fold_congr fun k _ => congrArg l (rows_lift r k)

/-- A comparison's bit as a number. -/
theorem uitofp_bit (P : Prop) [Decidable P] :
    (((BitVec.ofBool (decide P)).toNat : ℝ) : EReal) = bit P := by
  unfold bit
  by_cases h : P <;> simp [h]

theorem sitofp_bit (P : Prop) [Decidable P] :
    ((((BitVec.ofBool (decide P)).setWidth 32).toInt : ℝ) : EReal) = bit P := by
  unfold bit
  by_cases h : P <;> simp [h]

/-- A finite entry kept, another replaced, at one place. -/
theorem keepFinite_apply {s : Shape} (a b d : FVec Ideal s .f32) (j : s.Idx) :
    select (cmpf .olt (Host.absf a) b) a d j = Scalar.select (Ideal.cmp .olt (max (a j) (-(a j))) (b j)) (a j) (d j) := rfl

/-- A logarithm and a sum, at one place. -/
theorem log_add_apply {s : Shape} (a b : FVec Ideal s .f32) (j : s.Idx) :
    addf (Host.log a) b j = Ideal.log (a j) + b j := rfl

/-- The bit of a comparison with a logarithm, at one place. -/
theorem log_lt_apply {s : Shape} (a b d : FVec Ideal s .f32) (j : s.Idx) :
    uitofp (F := Ideal) .f32 (cmpf .olt (Host.log a) (addf b d)) j = bit (Ideal.log (a j) < b j + d j) := uitofp_bit _

theorem keepFinite_eq (M : EReal) : Scalar.select (Ideal.cmp .olt (max M (-M)) ⊤) M 0 = shiftOf M := by
  unfold shiftOf Scalar.select Ideal.cmp
  induction M with
  | bot => simp
  | top => simp
  | coe m =>
    have h : max ((m : ℝ) : EReal) (-(m : EReal)) < ⊤ :=
      max_lt (EReal.coe_lt_top _) (by rw [← EReal.coe_neg]; exact EReal.coe_lt_top _)
    simp [h]

/-- The shift of a row. -/
theorem shift_apply (l : FVec Ideal S128x100000 .f32) (r : Fin 128) :
    shift l (ix2 r (0 : Fin 1)) = shiftOf (Finset.univ.sup fun k : Fin 100000 => l (ix2 r k)) := by
  refine (keepFinite_apply (rowMax l) (col1 0x7F800000#32) (col1 0x00000000#32) _).trans ?_
  rw [col1_apply, col1_apply, word_top, word_zero, rowMax_apply]
  exact keepFinite_eq _

theorem decayCol_apply (j : S128x1.Idx) : decayCol (F := Ideal) j = ((decayR : ℝ) : EReal) := by
  unfold decayCol
  rw [broadcastInDim_scalar_apply]
  exact decay_words

/-- The inhibition after the first step. -/
theorem inhibition_apply (j : S128x1.Idx) : inhibition (F := Ideal) j = ((inhR : ℝ) : EReal) := by
  show col1 (F := Ideal) 0x43FA0000#32 j + (col1 (F := Ideal) 0x00000000#32 j - col1 (F := Ideal) 0x43FA0000#32 j) * decayCol (F := Ideal) j = _
  rw [col1_apply, col1_apply, decayCol_apply, word_fiveHundred, word_zero, inhR_eq, ← EReal.coe_zero]
  simp only [← EReal.coe_sub, ← EReal.coe_mul, ← EReal.coe_add]

/-- The noise after the first step. -/
theorem noise_apply (n : FVec Ideal S128x1 .f32) (j : S128x1.Idx) : noise n j = noiseOf (n j) := by
  show col1 (F := Ideal) 0x447A0000#32 j + (col1 (F := Ideal) 0x3F800000#32 j * col1 (F := Ideal) 0x447A0000#32 j
      - col1 (F := Ideal) 0x447A0000#32 j) * decayCol (F := Ideal) j + col1 (F := Ideal) 0x42480000#32 j * n j = _
  rw [col1_apply, col1_apply, col1_apply, decayCol_apply, word_thousand, word_one, word_fifty]
  unfold noiseOf
  simp only [← EReal.coe_sub, ← EReal.coe_mul, ← EReal.coe_add]
  congr 3
  ring

theorem logRates_apply (x : FVec Ideal S128x100000 .f32) (n : FVec Ideal S128x1 .f32) (r : Fin 128) (k : Fin 100000) :
    logRates x n (ix2 r k) = x (ix2 r k) - ((inhR : ℝ) : EReal) + noiseOf (n (ix2 r (0 : Fin 1))) := by
  show x (ix2 r k) - wide (inhibition (F := Ideal)) (ix2 r k) + wide (noise n) (ix2 r k) = _
  rw [wide_apply, wide_apply, inhibition_apply, noise_apply]

/-- The logarithm of a row's total rate, less the inhibition, plus the noise. -/
theorem logSumExp_apply (x : FVec Ideal S128x100000 .f32) (n : FVec Ideal S128x1 .f32) (r : Fin 128)
    (hx : ∀ k : Fin 100000, x (ix2 r k) ≠ ⊤) :
    logSumExp (logRates x n) (ix2 r (0 : Fin 1))
      = Ideal.log ((total fun k => x (ix2 r k) : ℝ) : EReal) - ((inhR : ℝ) : EReal) + noiseOf (n (ix2 r (0 : Fin 1))) := by
  refine (log_add_apply _ _ _).trans ?_
  rw [colOf_apply, rowSum_apply]
  have e : ∀ k : Fin 100000, Host.exp (subf (logRates x n) (wide (shift (logRates x n)))) (ix2 r k)
      = Ideal.exp (logRates x n (ix2 r k) - wide (shift (logRates x n)) (ix2 r k)) := fun _ => rfl
  simp only [e, wide_apply, shift_apply, logRates_apply]
  exact logSum_eq (fun k => x (ix2 r k)) hx inhR _ _ rfl

/-- The bit of a row's spike. -/
theorem spiked_apply (x : FVec Ideal S128x100000 .f32) (n u : FVec Ideal S128x1 .f32) (r : Fin 128)
    (hx : ∀ k : Fin 100000, x (ix2 r k) ≠ ⊤) :
    uitofp (F := Ideal) .f32 (spiked x n u) (ix2 r (0 : Fin 1))
      = bit (spikesOf (fun k => x (ix2 r k)) (n (ix2 r (0 : Fin 1))) (u (ix2 r (0 : Fin 1)))) := by
  refine (log_lt_apply u (logSumExp (logRates x n)) (col1 0xC0DD0C55#32) _).trans ?_
  rw [logSumExp_apply x n r hx, col1_apply]
  rfl

/-- The second result of the reference. -/
theorem inhibition2_apply (x : FVec Ideal S128x100000 .f32) (n u : FVec Ideal S128x1 .f32) (r : Fin 128)
    (hx : ∀ k : Fin 100000, x (ix2 r k) ≠ ⊤) :
    inhibition2 x n u (ix2 r (0 : Fin 1))
      = outInhibition (fun k => x (ix2 r k)) (n (ix2 r (0 : Fin 1))) (u (ix2 r (0 : Fin 1))) := by
  show col1 (F := Ideal) 0x43FA0000#32 (ix2 r (0 : Fin 1)) + (inhibition (F := Ideal) (ix2 r (0 : Fin 1)) - col1 (F := Ideal) 0x43FA0000#32 (ix2 r (0 : Fin 1)))
      * decayCol (F := Ideal) (ix2 r (0 : Fin 1)) + uitofp (F := Ideal) .f32 (spiked x n u) (ix2 r (0 : Fin 1)) * col1 (F := Ideal) 0x453B8000#32 (ix2 r (0 : Fin 1)) = _
  rw [spiked_apply x n u r hx, col1_apply, col1_apply, inhibition_apply, decayCol_apply, word_fiveHundred, word_threeThousand]
  unfold outInhibition
  simp only [← EReal.coe_sub, ← EReal.coe_mul, ← EReal.coe_add]

/-- The third result of the reference. -/
theorem noise2_apply (n n2 : FVec Ideal S128x1 .f32) (r : Fin 128) :
    noise2 n n2 (ix2 r (0 : Fin 1)) = outNoise (n (ix2 r (0 : Fin 1))) (n2 (ix2 r (0 : Fin 1))) := by
  show col1 (F := Ideal) 0x447A0000#32 (ix2 r (0 : Fin 1)) + (noise n (ix2 r (0 : Fin 1)) - col1 (F := Ideal) 0x447A0000#32 (ix2 r (0 : Fin 1)))
      * decayCol (F := Ideal) (ix2 r (0 : Fin 1)) + col1 (F := Ideal) 0x42480000#32 (ix2 r (0 : Fin 1)) * n2 (ix2 r (0 : Fin 1)) = _
  rw [noise_apply, col1_apply, col1_apply, decayCol_apply, word_thousand, word_fifty]
  rfl

end OU.Ref

end
-- ==== Proof.RefDraw.lean ====
/- The class the reference draws: the running probabilities, the first of them that reaches the drawn number, and the
   first result. -/
module

public import proofs.«01_k».proof.Proof.RefPlaces
public import proofs.«01_k».proof.Proof.Running

@[expose] public section

noncomputable section

namespace OU.Ref

open Cert.ReferenceIdeal Cert.ReferenceIdeal.Gen Idealize.ShloMosaic Idealize.ShloMosaic.ValueIdx

/-- A quotient of an exponential, at one place. -/
theorem exp_div_apply {s : Shape} (a b : FVec Ideal s .f32) (j : s.Idx) :
    Host.divf (Host.exp a) b j = Ideal.div (Ideal.exp (a j)) (b j) := rfl

/-- The probability of a class. -/
theorem probs_apply (x : FVec Ideal S128x100000 .f32) (r : Fin 128) (k : Fin 100000)
    (hx : ∀ k : Fin 100000, x (ix2 r k) ≠ ⊤) : probs x (ix2 r k) = probAt (fun k => x (ix2 r k)) k.val := by
  unfold probs
  rw [exp_div_apply, wide_apply, colOf_apply, rowSum_apply]
  have e : ∑ k : Fin 100000, Host.exp x (ix2 r k) = ((total fun k => x (ix2 r k) : ℝ) : EReal) := by
    unfold total
    rw [coe_sum]
    exact Finset.sum_congr rfl fun k _ => exp_eq_rate (hx k)
  rw [e, probAt, dif_pos k.isLt]

/-- The windowed sum of a matrix along its rows, at one place. -/
theorem windowSum_apply {R C Cm1 : ℕ} (hC : Cm1 + 1 = C) (x : FVec Ideal ⟨2, ![R, C]⟩ .f32) {u : Shape} (init : FVec Ideal u .f32)
    (h : (⟨2, ![R, C]⟩ : Shape).ReduceWindows (![1, C] : Fin 2 → ℕ) ![1, 1] ![0, Cm1] ![0, 0] ⟨2, ![R, C]⟩)
    (hu : 0 < u.numel) (hinit : init (Shape.Idx.first hu) = 0) (r : Fin R) (j : Fin C) :
    Host.reduceWindowAdd ![1, C] ![1, 1] ![0, Cm1] ![0, 0] x init h hu (ix2 r j)
      = ∑ i ∈ Finset.range (j.val + 1), rowEntry x r i :=
  running_apply hC x (fun _ : (⟨0, ![]⟩ : Shape).Idx => init (Shape.Idx.first hu)) h (by decide) hinit r j

/-- The running sums of the probabilities. -/
theorem running_probs (x : FVec Ideal S128x100000 .f32) (r : Fin 128) (j : Fin 100000)
    (hx : ∀ k : Fin 100000, x (ix2 r k) ≠ ⊤) :
    running (probs x) (ix2 r j) = ∑ i ∈ Finset.range (j.val + 1), probAt (fun k => x (ix2 r k)) i := by
  unfold running
  rw [windowSum_apply (R := 128) (C := 100000) (Cm1 := 99999) (by norm_num) (probs x)]
  · refine Finset.sum_congr rfl fun i hi => ?_
    have hi' : i < 100000 := by have := Finset.mem_range.1 hi; have := j.isLt; omega
    rw [rowEntry, dif_pos hi', probs_apply x r ⟨i, hi'⟩ hx]
  · rw [broadcastInDim_scalar_apply]
    exact word_zero

/-- A comparison's bit as a byte, at one place. -/
theorem ge_byte_apply {s : Shape} (a b : FVec Ideal s .f32) (j : s.Idx) (h : 1 < 8) :
    extui 8 (cmpf .oge a b) h j = (BitVec.ofBool (decide (b j ≤ a j))).setWidth 8 := rfl

open Classical in
/-- One where the running sum has reached the drawn number. -/
theorem reached_apply (c : FVec Ideal S128x100000 .f32) (d : FVec Ideal S128 .f32) (r : Fin 128) (j : Fin 100000) :
    reached c d (ix2 r j) = if d (ix1 r) ≤ c (ix2 r j) then 1#8 else 0#8 := by
  unfold reached
  rw [ge_byte_apply, wide_apply, colOf_apply]
  by_cases h : d (ix1 r) ≤ c (ix2 r j)
  · rw [if_pos h, decide_eq_true h]; rfl
  · rw [if_neg h, decide_eq_false h]; rfl

theorem place_zero (r : Fin 128) (i : S128x100000.Idx) (h : reducesTo_S128x100000_S128_d1.drop i = ix1 r) : (i 0).val = r.val := by
  rw [← Shape.ReducesTo.drop_apply_val_of_eq reducesTo_S128x100000_S128_d1 i 0 0, h]

theorem drop_place (r : Fin 128) (j : Fin 100000) : reducesTo_S128x100000_S128_d1.drop (ix2 r j) = ix1 r := by
  funext a
  match a with
  | ⟨0, _⟩ => exact Fin.ext (Shape.ReducesTo.drop_apply_val_of_eq reducesTo_S128x100000_S128_d1 (ix2 r j) 0 0)

/-- The positions of an array that a reduction sums into one place, in row-major order. -/
def placesOf {s t : Shape} {axes : List (Fin s.rank)} (h : s.ReducesTo axes t) (j : t.Idx) : List (Fin s.numel) :=
  (List.finRange s.numel).filter fun n => h.drop (s.rowMajor.symm n) = j

/-- The entries at those positions. -/
theorem fiber_eq {s t : Shape} {axes : List (Fin s.rank)} (h : s.ReducesTo axes t) (j : t.Idx) (b : IVec s 8) (y : IVec s 32) :
    Host.argReduceFiber b y h j = (placesOf h j).map fun n => (b (s.rowMajor.symm n), y (s.rowMajor.symm n)) := rfl

theorem drop_of_mem {s t : Shape} {axes : List (Fin s.rank)} (h : s.ReducesTo axes t) (j : t.Idx) (n : Fin s.numel)
    (hn : n ∈ placesOf h j) : h.drop (s.rowMajor.symm n) = j := of_decide_eq_true (List.mem_filter.1 hn).2

theorem mem_placesOf {s t : Shape} {axes : List (Fin s.rank)} (h : s.ReducesTo axes t) (i : s.Idx) :
    s.rowMajor i ∈ placesOf h (h.drop i) :=
  List.mem_filter.2 ⟨List.mem_finRange _, by rw [Equiv.symm_apply_apply]; exact decide_eq_true rfl⟩

theorem placesOf_sorted {s t : Shape} {axes : List (Fin s.rank)} (h : s.ReducesTo axes t) (j : t.Idx) :
    (placesOf h j).Pairwise (· < ·) := (List.pairwise_lt_finRange _).filter _

/-- The positions of a row in row-major order. -/
def rowList (r : Fin 128) : List (Fin S128x100000.numel) := placesOf reducesTo_S128x100000_S128_d1 (ix1 r)

/-- The class of a position. -/
def classOf (n : Fin S128x100000.numel) : ℕ := (S128x100000.rowMajor.symm n 1).val

theorem classOf_lt (n : Fin S128x100000.numel) : classOf n < 100000 := (S128x100000.rowMajor.symm n 1).isLt

theorem val_of_mem (r : Fin 128) (n : Fin S128x100000.numel) (h : n ∈ rowList r) : n.val = r.val * 100000 + classOf n := by
  have h1 := drop_of_mem _ _ n h
  have h0 := place_zero r _ h1
  have hn : (S128x100000.rowMajor (S128x100000.rowMajor.symm n)).val = n.val := by rw [Equiv.apply_symm_apply]
  rw [← hn, Shape.rowMajor_val_two, h0]
  rfl

theorem symm_of_mem (r : Fin 128) (n : Fin S128x100000.numel) (h : n ∈ rowList r) :
    S128x100000.rowMajor.symm n = ix2 r (⟨classOf n, classOf_lt n⟩ : Fin 100000) := by
  have h1 := drop_of_mem _ _ n h
  have h0 := place_zero r _ h1
  funext a
  match a with
  | ⟨0, _⟩ => exact Fin.ext h0
  | ⟨1, _⟩ => rfl

theorem classes_sorted (r : Fin 128) : ((rowList r).map classOf).Pairwise (· < ·) := by
  rw [List.pairwise_map]
  refine List.Pairwise.imp_of_mem ?_ (placesOf_sorted _ _ : (rowList r).Pairwise (· < ·))
  intro a b ha hb hab
  have h1 := val_of_mem r a ha
  have h2 := val_of_mem r b hb
  have h3 := Fin.lt_def.1 hab
  omega

theorem class_mem (r : Fin 128) (j : Fin 100000) : j.val ∈ (rowList r).map classOf := by
  refine List.mem_map.2 ⟨S128x100000.rowMajor (ix2 r j), ?_, ?_⟩
  · have := mem_placesOf reducesTo_S128x100000_S128_d1 (ix2 r j)
    rwa [drop_place] at this
  · unfold classOf
    rw [Equiv.symm_apply_apply]

theorem zero_at {w : ℕ} (v : BitVec w) (i : S_.Idx) : constantI S_ w v i = v := rfl

theorem map_marked {ι : Type} (L : List ι) (cls : ι → ℕ) (g : ι → BitVec 8 × BitVec 32) (Q : ℕ → Prop)
    (hg : ∀ n ∈ L, g n = marked Q (cls n)) : L.map g = (L.map cls).map (marked Q) := by
  rw [List.map_map]
  exact List.map_congr_left hg

open Classical in
/-- The entry of a row of zeros and ones with its class. -/
theorem entry_marked (b : IVec S128x100000 8) (r : Fin 128) (P : Fin 100000 → Prop)
    (hb : ∀ j : Fin 100000, b (ix2 r j) = if P j then 1#8 else 0#8) (k : ℕ) (hk : k < 100000) :
    (b (ix2 r (⟨k, hk⟩ : Fin 100000)), iotaInDim S128x100000 32 1 (ix2 r (⟨k, hk⟩ : Fin 100000)))
      = marked (fun n => ∃ h : n < 100000, P ⟨n, h⟩) k := by
  unfold marked
  refine Prod.ext ((hb _).trans ?_) rfl
  by_cases h : P ⟨k, hk⟩
  · rw [if_pos h, if_pos ⟨hk, h⟩]
  · rw [if_neg h, if_neg fun ⟨_, h'⟩ => h h']

/-- A two-operand reduction at one place, the entries there marked classes. -/
theorem reduce2_marked {s t u : Shape} {axes : List (Fin s.rank)} (h : s.ReducesTo axes t) (hu : 0 < u.numel) (j : t.Idx)
    (b : IVec s 8) (y : IVec s 32) (f : BitVec 8 × BitVec 32 → BitVec 8 × BitVec 32 → BitVec 8 × BitVec 32) (a : IVec u 8)
    (d : IVec u 32) (cls : Fin s.numel → ℕ) (Q : ℕ → Prop)
    (hg : ∀ n ∈ placesOf h j, (b (s.rowMajor.symm n), y (s.rowMajor.symm n)) = marked Q (cls n))
    (ha : a (Shape.Idx.first hu) = 0#8) (hd : d (Shape.Idx.first hu) = 0#32) :
    Host.reduce2 f b y a d h hu j = (((placesOf h j).map cls).map (marked Q)).foldl f (0#8, 0#32) := by
  rw [Host.reduce2_eq_foldl_fiber, fiber_eq, map_marked _ cls _ Q hg, ha, hd]

theorem firstMax_def (b : IVec S128x100000 8) :
    firstMax b = fun j => (Host.reduce2 reducer_argmax_i8_i32 b (iotaInDim S128x100000 32 1) (constantI S_ 8 0#8) (constantI S_ 32 0#32)
      reducesTo_S128x100000_S128_d1 h_S_ j).2 := by
  rfl

/-- The second component of a family of pairs, at one place. -/
theorem second_at {ι α β : Type} (g : ι → β) (f : ι → α × β) (h : g = fun j => (f j).2) (j : ι) (v : α × β) (e : f j = v) : g j = v.2 := by
  rw [h, ← e]

open Classical in
/-- The first largest entry of a row of zeros and ones is the first one (the first entry where there is none). -/
theorem firstMax_apply (b : IVec S128x100000 8) (r : Fin 128) (P : Fin 100000 → Prop)
    (hb : ∀ j : Fin 100000, b (ix2 r j) = if P j then 1#8 else 0#8) :
    firstMax b (ix1 r) = BitVec.ofNat 32 (firstPlace P) := by
  have hfold := reduce2_marked reducesTo_S128x100000_S128_d1 h_S_ (ix1 r) b (iotaInDim S128x100000 32 1) reducer_argmax_i8_i32
    (constantI S_ 8 0#8) (constantI S_ 32 0#32) classOf (fun n => ∃ h : n < 100000, P ⟨n, h⟩)
    (fun n hn => by
      rw [symm_of_mem r n hn]
      exact entry_marked b r P hb (classOf n) (classOf_lt n))
    (zero_at _ _) (zero_at _ _)
  have hlt : ∀ n ∈ (rowList r).map classOf, n < 100000 := fun n hn => by
    obtain ⟨m, _, rfl⟩ := List.mem_map.1 hn
    exact classOf_lt m
  rcases fold_first (fun n => ∃ h : n < 100000, P ⟨n, h⟩) _ (classes_sorted r) hlt with ⟨hno, e⟩ | ⟨p, hp, ⟨hpl, hP⟩, hmin, e⟩
  · have h0 : firstPlace P = 0 := firstPlace_of_none fun i hi => hno i.val (class_mem r i) ⟨i.isLt, hi⟩
    rw [h0]
    exact second_at _ _ (firstMax_def b) (ix1 r) _ (hfold.trans e)
  · have h1 : firstPlace P = p := firstPlace_eq (⟨p, hpl⟩ : Fin 100000) hP fun i hi hPi =>
      hmin i.val (class_mem r i) (Fin.lt_def.1 hi) ⟨i.isLt, hPi⟩
    rw [h1]
    exact second_at _ _ (firstMax_def b) (ix1 r) _ (hfold.trans e)

/-- The class drawn by the reference. -/
theorem drawn_apply (x : FVec Ideal S128x100000 .f32) (d : FVec Ideal S128 .f32) (r : Fin 128)
    (hx : ∀ k : Fin 100000, x (ix2 r k) ≠ ⊤) :
    firstMax (reached (running (probs x)) d) (ix1 r) = BitVec.ofNat 32 (drawn (fun k => x (ix2 r k)) (d (ix1 r))) := by
  rw [firstMax_apply _ r (fun j => d (ix1 r) ≤ ∑ i ∈ Finset.range (j.val + 1), probAt (fun k => x (ix2 r k)) i) fun j => by
    rw [reached_apply, running_probs x r j hx]
    by_cases h : d (ix1 r) ≤ ∑ i ∈ Finset.range (j.val + 1), probAt (fun k => x (ix2 r k)) i
    · rw [if_pos h, if_pos h]
    · rw [if_neg h, if_neg h]]
  rw [drawn_eq _ hx]

/-- Two words of classes are equal where the classes are. -/
theorem word_eq_iff {p q : ℕ} (hp : p ≤ 100000) (hq : q ≤ 100000) : BitVec.ofNat 32 p = BitVec.ofNat 32 q ↔ p = q := by
  refine ⟨fun h => ?_, fun h => by rw [h]⟩
  have := congrArg BitVec.toInt h
  rw [toInt_small hp, toInt_small hq] at this
  exact_mod_cast this

/-- The bit of an equality of words, at one place. -/
theorem eq_bit_apply {s : Shape} (a b : IVec s 32) (j : s.Idx) :
    uitofp (F := Ideal) .f32 (cmpi .eq a b) j = bit (a j = b j) := uitofp_bit (a j = b j)

/-- The row of classes repeated down the rows. -/
theorem classes_apply (r : Fin 128) (j : Fin 100000) :
    broadcastInDim S128x100000 ![0, 1] bcast_S1x100000_S128x100000_0_1 (iotaInDim S1x100000 32 1) (ix2 r j) = BitVec.ofNat 32 j.val := by
  rw [broadcastInDim_apply ![0, 1] _ (iotaInDim S1x100000 32 1) (ix2 r j) (ix2 (0 : Fin 1) j) fun a => by
    match a with
    | ⟨0, _⟩ => rfl
    | ⟨1, _⟩ => rfl]
  rfl

/-- A product with a repeated column, at one place. -/
theorem mul_apply {s : Shape} (a b : FVec Ideal s .f32) (j : s.Idx) : mulf a b j = a j * b j := rfl

/-- The first result of the reference. -/
theorem spikes_apply (x : FVec Ideal S128x100000 .f32) (n u : FVec Ideal S128x1 .f32) (d : FVec Ideal S128 .f32) (r : Fin 128)
    (j : Fin 100000) (hx : ∀ k : Fin 100000, x (ix2 r k) ≠ ⊤) :
    spikes x n u d (ix2 r j)
      = outSpike (fun k => x (ix2 r k)) (n (ix2 r (0 : Fin 1))) (u (ix2 r (0 : Fin 1))) (d (ix1 r)) j := by
  unfold spikes
  rw [mul_apply, wide_apply, spiked_apply x n u r hx]
  unfold oneHot
  rw [eq_bit_apply, wide_apply, colOf_apply, drawn_apply x d r hx, classes_apply]
  unfold outSpike
  congr 2
  have hlt : drawn (fun k => x (ix2 r k)) (d (ix1 r)) < 100000 := firstPlace_lt (by omega) _
  rw [eq_iff_iff, word_eq_iff hlt.le j.isLt.le]
  exact eq_comm

end OU.Ref

end
-- ==== Proof.Scan.lean ====
/- The running sums of a block of eight rows, as the kernel takes them: within chunks of 128, over the chunks' sums in
   groups of 128, and over the groups' sums one after another. Entry `(b, j)` is the sum of the first `j + 1` entries. -/
module

public import proofs.«01_k».proof.Proof.Tiles
public import proofs.«01_k».proof.Proof.RefDraw
public import proofs.«01_k».proof.Proof.Gen.KernelIdeal.Skeleton

@[expose] public section

noncomputable section

namespace OU.Ker

open Cert.KernelIdeal Cert.KernelIdeal.Gen Idealize.ShloMosaic Idealize.ShloMosaic.ValueIdx

/-- The rows, padded with zeros, in chunks of 128. -/
def chunks (e : FVec Ideal S8x100000 .f32) : FVec Ideal S8x782x128 .f32 :=
  shapeCast S8x782x128 (concatenate S8x100096 1 [⟨S8x100000, e⟩, ⟨S8x96, broadcast S8x96 (Scalar.ofBits (F := Ideal) .f32 0x00000000#32)⟩]
    concatenates_S8x100000_S8x96_S8x100096_d1) shapeCasts_S8x100096_S8x782x128

/-- The triangle of ones. -/
def triangle : FVec Ideal S128x128 .f32 :=
  sitofp .f32 (extui 32 (cmpi .sle (iota .tc S128x128 32 [0] iota_S128x128_d0_w32) (iota .tc S128x128 32 [1] iota_S128x128_d1_w32)) natLt_1_32)

/-- The running sums within each chunk. -/
def within (x : FVec Ideal S8x782x128 .f32) : FVec Ideal S8x782x128 .f32 :=
  matmul dot_S8x782x128_S128x128_S8x782x128_2_0_01_1_n_n (some .fp32) x triangle (constant S8x782x128 .f32 0x00000000#32)

/-- The chunks' sums, padded with zeros, in groups of 128. -/
def groups (q : FVec Ideal S8x782x128 .f32) : FVec Ideal S8x7x128 .f32 :=
  shapeCast S8x7x128 (concatenate S8x896 1
    [⟨S8x782, shapeCast S8x782 (extractStridedSlice S8x782x1 ![0, 0, 127] q slices_S8x782x128_o0_0_127_S8x782x1) shapeCasts_S8x782x1_S8x782⟩,
      ⟨S8x114, broadcast S8x114 (Scalar.ofBits (F := Ideal) .f32 0x00000000#32)⟩]
    concatenates_S8x782_S8x114_S8x896_d1) shapeCasts_S8x896_S8x7x128

/-- The running sums within each group. -/
def withinGroups (x : FVec Ideal S8x7x128 .f32) : FVec Ideal S8x7x128 .f32 :=
  matmul dot_S8x7x128_S128x128_S8x7x128_2_0_01_1_n_n (some .fp32) x triangle (constant S8x7x128 .f32 0x00000000#32)

/-- The groups' sums. -/
def groupSums (x : FVec Ideal S8x7x128 .f32) : FVec Ideal S8x7 .f32 :=
  shapeCast S8x7 (extractStridedSlice S8x7x1 ![0, 0, 127] x slices_S8x7x128_o0_0_127_S8x7x1) shapeCasts_S8x7x1_S8x7

def upTo0 : FVec Ideal S8x1 .f32 := broadcast S8x1 (Scalar.ofBits (F := Ideal) .f32 0x00000000#32)
def upTo1 (s : FVec Ideal S8x7 .f32) : FVec Ideal S8x1 .f32 := addf upTo0 (extractStridedSlice S8x1 ![0, 0] s slices_S8x7_o0_0_S8x1)
def upTo2 (s : FVec Ideal S8x7 .f32) : FVec Ideal S8x1 .f32 := addf (upTo1 s) (extractStridedSlice S8x1 ![0, 1] s slices_S8x7_o0_1_S8x1)
def upTo3 (s : FVec Ideal S8x7 .f32) : FVec Ideal S8x1 .f32 := addf (upTo2 s) (extractStridedSlice S8x1 ![0, 2] s slices_S8x7_o0_2_S8x1)
def upTo4 (s : FVec Ideal S8x7 .f32) : FVec Ideal S8x1 .f32 := addf (upTo3 s) (extractStridedSlice S8x1 ![0, 3] s slices_S8x7_o0_3_S8x1)
def upTo5 (s : FVec Ideal S8x7 .f32) : FVec Ideal S8x1 .f32 := addf (upTo4 s) (extractStridedSlice S8x1 ![0, 4] s slices_S8x7_o0_4_S8x1)
def upTo6 (s : FVec Ideal S8x7 .f32) : FVec Ideal S8x1 .f32 := addf (upTo5 s) (extractStridedSlice S8x1 ![0, 5] s slices_S8x7_o0_5_S8x1)

/-- The sums of the groups before each group. -/
def groupStarts (s : FVec Ideal S8x7 .f32) : FVec Ideal S8x7 .f32 :=
  concatenate S8x7 1 [⟨S8x1, upTo0⟩, ⟨S8x1, upTo1 s⟩, ⟨S8x1, upTo2 s⟩, ⟨S8x1, upTo3 s⟩, ⟨S8x1, upTo4 s⟩, ⟨S8x1, upTo5 s⟩, ⟨S8x1, upTo6 s⟩]
    concatenates_S8x1_S8x1_S8x1_S8x1_S8x1_S8x1_S8x1_S8x7_d1

/-- The sums of the chunks before each chunk. -/
def chunkStarts (w : FVec Ideal S8x7x128 .f32) : FVec Ideal S8x782 .f32 :=
  extractStridedSlice S8x782 ![0, 0] (shapeCast S8x896 (addf (subf (withinGroups w) w)
    (broadcastTo S8x7x128 (shapeCast S8x7x1 (groupStarts (groupSums (withinGroups w))) shapeCasts_S8x7_S8x7x1) broadcasts_S8x7x1_S8x7x128))
    shapeCasts_S8x7x128_S8x896) slices_S8x896_o0_0_S8x782

/-- The running sums of the rows. -/
def scan (e : FVec Ideal S8x100000 .f32) : FVec Ideal S8x100000 .f32 :=
  extractStridedSlice S8x100000 ![0, 0] (shapeCast S8x100096 (addf (within (chunks e))
    (broadcastTo S8x782x128 (shapeCast S8x782x1 (chunkStarts (groups (within (chunks e)))) shapeCasts_S8x782_S8x782x1)
      broadcasts_S8x782x1_S8x782x128)) shapeCasts_S8x782x128_S8x100096) slices_S8x100096_o0_0_S8x100000

/-- What the kernel's block computes is the scan of the exponentials. -/
theorem pay5_eq (v0 : FVec Ideal S8x100000 .f32) : k0_pay5 (F := Ideal) v0 = scan (k0_pay3 (F := Ideal) v0) := rfl

theorem zeros_apply {s : Shape} (i : s.Idx) : broadcast s (Scalar.ofBits (F := Ideal) .f32 0x00000000#32) i = (0 : EReal) :=
  Ideal.ofBits_zero_f32

theorem chunks_apply (e : FVec Ideal S8x100000 .f32) (E : ℕ → ℝ) (b : Fin 8) (he : ∀ k : Fin 100000, e (ix2 b k) = ((E k.val : ℝ) : EReal))
    (hE : ∀ i, 100000 ≤ i → E i = 0) (c : Fin 782) (l : Fin 128) :
    chunks e (ix3 b c l) = ((E (c.val * 128 + l.val) : ℝ) : EReal) := by
  have hc := c.isLt
  have hl := l.isLt
  unfold chunks
  rw [split_apply (C := 782) (L := 128) (M := 100096) _ _ (by norm_num) b c l ⟨c.val * 128 + l.val, by omega⟩ rfl,
    padded_apply (N := 100000) (Z := 96) e _ _ (by norm_num) zeros_apply, rowEntry]
  split
  · next h => exact he _
  · next h => rw [hE _ (by simpa using h), EReal.coe_zero]

theorem triangle_apply (k l : Fin 128) :
    triangle (ix2 k l) = if k.val ≤ l.val then ((1 : ℝ) : EReal) else ((0 : ℝ) : EReal) := by
  have hk := k.isLt
  have hl := l.isLt
  unfold triangle
  rw [sitofp_apply, extui_apply]
  show ((((IntOp.cmpi .sle (iota .tc S128x128 32 [0] iota_S128x128_d0_w32 (ix2 k l))
    (iota .tc S128x128 32 [1] iota_S128x128_d1_w32 (ix2 k l))).setWidth 32).toInt : ℝ) : EReal) = _
  rw [iota_single_apply, iota_single_apply]
  show ((((IntOp.cmpi .sle (BitVec.ofNat 32 k.val) (BitVec.ofNat 32 l.val)).setWidth 32).toInt : ℝ) : EReal) = _
  have e : (BitVec.ofNat 32 k.val).sle (BitVec.ofNat 32 l.val) = decide (k.val ≤ l.val) := by
    rw [BitVec.sle, toInt_small (by omega), toInt_small (by omega)]
    simp
  unfold IntOp.cmpi
  simp only [e]
  by_cases h : k.val ≤ l.val
  · simp [h]
  · simp [h]

theorem within_apply (x : FVec Ideal S8x782x128 .f32) (f : ℕ → ℝ) (b : Fin 8) (c : Fin 782)
    (hx : ∀ k : Fin 128, x (ix3 b c k) = ((f k.val : ℝ) : EReal)) (l : Fin 128) :
    within x (ix3 b c l) = ((∑ i ∈ Finset.range (l.val + 1), f i : ℝ) : EReal) := by
  refine (product_apply (B := 8) (C := 782) (K := 128) (N := 128) _ _ x triangle b c l).trans ?_
  simp only [hx]
  exact triangle_sum f _ l.val l.isLt fun k => triangle_apply k l

theorem withinGroups_apply (x : FVec Ideal S8x7x128 .f32) (f : ℕ → ℝ) (b : Fin 8) (c : Fin 7)
    (hx : ∀ k : Fin 128, x (ix3 b c k) = ((f k.val : ℝ) : EReal)) (l : Fin 128) :
    withinGroups x (ix3 b c l) = ((∑ i ∈ Finset.range (l.val + 1), f i : ℝ) : EReal) := by
  refine (product_apply (B := 8) (C := 7) (K := 128) (N := 128) _ _ x triangle b c l).trans ?_
  simp only [hx]
  exact triangle_sum f _ l.val l.isLt fun k => triangle_apply k l

theorem groups_apply (q : FVec Ideal S8x782x128 .f32) (S : ℕ → ℝ) (b : Fin 8)
    (hq : ∀ c : Fin 782, q (ix3 b c (127 : Fin 128)) = ((S c.val : ℝ) : EReal)) (hS : ∀ i, 782 ≤ i → S i = 0) (g : Fin 7) (l : Fin 128) :
    groups q (ix3 b g l) = ((S (g.val * 128 + l.val) : ℝ) : EReal) := by
  have hg := g.isLt
  have hl := l.isLt
  unfold groups
  rw [split_apply (C := 7) (L := 128) (M := 896) _ _ (by norm_num) b g l ⟨g.val * 128 + l.val, by omega⟩ rfl,
    padded_apply (N := 782) (Z := 114) _ _ _ (by norm_num) zeros_apply, rowEntry]
  split
  · next h =>
    rw [lane_apply (C := 782) (L := 128) (o := 127) q _ _ (by norm_num)]
    exact hq _
  · next h => rw [hS _ (by simpa using h), EReal.coe_zero]

theorem groupSums_apply (x : FVec Ideal S8x7x128 .f32) (b : Fin 8) (g : Fin 7) :
    groupSums x (ix2 b g) = x (ix3 b g (127 : Fin 128)) :=
  lane_apply (C := 7) (L := 128) (o := 127) x _ _ (by norm_num) b g

/-- One more group. -/
theorem upTo_step {o : ℕ} (u : FVec Ideal S8x1 .f32) (s : FVec Ideal S8x7 .f32) (h : S8x7.Slices ![0, o] S8x1) (ho : o < 7) (G : ℕ → ℝ)
    (b : Fin 8) (hs : ∀ g : Fin 7, s (ix2 b g) = ((G g.val : ℝ) : EReal))
    (hu : u (ix2 b (0 : Fin 1)) = ((∑ i ∈ Finset.range o, G i : ℝ) : EReal)) :
    addf u (extractStridedSlice S8x1 ![0, o] s h) (ix2 b (0 : Fin 1)) = ((∑ i ∈ Finset.range (o + 1), G i : ℝ) : EReal) := by
  rw [addf_apply, column_apply (M := 7) s h b ho, hu, hs, Finset.sum_range_succ, EReal.coe_add]

theorem groupStarts_apply (s : FVec Ideal S8x7 .f32) (G : ℕ → ℝ) (b : Fin 8)
    (hs : ∀ g : Fin 7, s (ix2 b g) = ((G g.val : ℝ) : EReal)) (g : Fin 7) :
    groupStarts s (ix2 b g) = ((∑ i ∈ Finset.range g.val, G i : ℝ) : EReal) := by
  have h0 : upTo0 (ix2 b (0 : Fin 1)) = ((∑ i ∈ Finset.range 0, G i : ℝ) : EReal) := by
    rw [Finset.sum_range_zero, EReal.coe_zero]; exact zeros_apply _
  have h1 := upTo_step upTo0 s slices_S8x7_o0_0_S8x1 (by norm_num) G b hs h0
  have h2 := upTo_step (upTo1 s) s slices_S8x7_o0_1_S8x1 (by norm_num) G b hs h1
  have h3 := upTo_step (upTo2 s) s slices_S8x7_o0_2_S8x1 (by norm_num) G b hs h2
  have h4 := upTo_step (upTo3 s) s slices_S8x7_o0_3_S8x1 (by norm_num) G b hs h3
  have h5 := upTo_step (upTo4 s) s slices_S8x7_o0_4_S8x1 (by norm_num) G b hs h4
  have h6 := upTo_step (upTo5 s) s slices_S8x7_o0_5_S8x1 (by norm_num) G b hs h5
  refine (seven_apply ![upTo0, upTo1 s, upTo2 s, upTo3 s, upTo4 s, upTo5 s, upTo6 s] _ b g).trans ?_
  match g with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

theorem chunkStarts_apply (w : FVec Ideal S8x7x128 .f32) (S : ℕ → ℝ) (b : Fin 8)
    (hw : ∀ (g : Fin 7) (l : Fin 128), w (ix3 b g l) = ((S (g.val * 128 + l.val) : ℝ) : EReal)) (c : Fin 782) :
    chunkStarts w (ix2 b c) = ((∑ i ∈ Finset.range c.val, S i : ℝ) : EReal) := by
  have hc := c.isLt
  have hin : ∀ (g : Fin 7) (l : Fin 128), withinGroups w (ix3 b g l) = ((∑ i ∈ Finset.range (l.val + 1), S (g.val * 128 + i) : ℝ) : EReal) :=
    fun g l => withinGroups_apply w (fun i => S (g.val * 128 + i)) b g (fun k => hw g k) l
  have hst : ∀ g : Fin 7, groupStarts (groupSums (withinGroups w)) (ix2 b g)
      = ((∑ h ∈ Finset.range g.val, ∑ i ∈ Finset.range 128, S (h * 128 + i) : ℝ) : EReal) := fun g =>
    groupStarts_apply _ (fun h => ∑ i ∈ Finset.range 128, S (h * 128 + i)) b (fun g => (groupSums_apply _ b g).trans (hin g 127)) g
  have hq : c.val / 128 < 7 := by omega
  have hr : c.val % 128 < 128 := Nat.mod_lt _ (by norm_num)
  have hd : c.val / 128 * 128 + c.val % 128 = c.val := Nat.div_add_mod' _ _
  unfold chunkStarts
  rw [first_apply (N := 782) (M := 896) _ _ b c ⟨c.val, by omega⟩ rfl,
    join_apply (C := 7) (L := 128) (M := 896) _ _ (by norm_num) b ⟨c.val / 128, hq⟩ ⟨c.val % 128, hr⟩ _ hd.symm,
    addf_apply, subf_apply, repeat_apply (C := 7) (L := 128), hin, hst, hw, ← EReal.coe_sub, ← EReal.coe_add, sum_blocks]
  congr 1
  conv_rhs => rw [← hd, Finset.sum_range_add]
  rw [Finset.sum_range_succ]
  ring

/-- The scan gives the running sums. -/
theorem scan_apply (e : FVec Ideal S8x100000 .f32) (E : ℕ → ℝ) (b : Fin 8) (he : ∀ k : Fin 100000, e (ix2 b k) = ((E k.val : ℝ) : EReal))
    (hE : ∀ i, 100000 ≤ i → E i = 0) (j : Fin 100000) :
    scan e (ix2 b j) = ((∑ i ∈ Finset.range (j.val + 1), E i : ℝ) : EReal) := by
  have hj := j.isLt
  have hin : ∀ (c : Fin 782) (l : Fin 128), within (chunks e) (ix3 b c l) = ((∑ i ∈ Finset.range (l.val + 1), E (c.val * 128 + i) : ℝ) : EReal) :=
    fun c l => within_apply (chunks e) (fun i => E (c.val * 128 + i)) b c (fun k => chunks_apply e E b he hE c k) l
  have hst : ∀ c : Fin 782, chunkStarts (groups (within (chunks e))) (ix2 b c)
      = ((∑ h ∈ Finset.range c.val, ∑ i ∈ Finset.range 128, E (h * 128 + i) : ℝ) : EReal) := fun c =>
    chunkStarts_apply _ (fun h => ∑ i ∈ Finset.range 128, E (h * 128 + i)) b
      (fun g l => groups_apply _ (fun h => ∑ i ∈ Finset.range 128, E (h * 128 + i)) b (fun c => hin c 127)
        (fun h hh => Finset.sum_eq_zero fun i _ => hE _ (by omega)) g l) c
  have hq : j.val / 128 < 782 := by omega
  have hr : j.val % 128 < 128 := Nat.mod_lt _ (by norm_num)
  have hd : j.val / 128 * 128 + j.val % 128 = j.val := Nat.div_add_mod' _ _
  unfold scan
  rw [first_apply (N := 100000) (M := 100096) _ _ b j ⟨j.val, by omega⟩ rfl,
    join_apply (C := 782) (L := 128) (M := 100096) _ _ (by norm_num) b ⟨j.val / 128, hq⟩ ⟨j.val % 128, hr⟩ _ hd.symm,
    addf_apply, repeat_apply (C := 782) (L := 128), hin, hst, ← EReal.coe_add, sum_blocks]
  congr 1
  conv_rhs => rw [← hd, add_assoc, Finset.sum_range_add]
  ring

end OU.Ker

end
-- ==== Proof.Block.lean ====
/- What one block of the kernel computes: the three results of each of its eight rows, from the row's entries. -/
module

public import proofs.«01_k».proof.Proof.Scan
public import Idealize.ShloMosaic.Lib.IndicatorCount
public import Idealize.ShloMosaic.PureOps.IdealRules

@[expose] public section

noncomputable section

namespace OU.Ker

open Cert.KernelIdeal Cert.KernelIdeal.Gen Idealize.ShloMosaic Idealize.ShloMosaic.ValueIdx Idealize.ShloMosaic.IndicatorCount

/-! ## Columns and counts -/

/-- A vector as a column. -/
theorem asColumn_apply {α : Type} {B : ℕ} (v : (⟨1, ![B]⟩ : Shape).Idx → α) (h : (⟨1, ![B]⟩ : Shape).ShapeCasts ⟨2, ![B, 1]⟩) (b : Fin B) :
    shapeCast (⟨2, ![B, 1]⟩ : Shape) v h (ix2 b (0 : Fin 1)) = v (ix1 b) :=
  shapeCast_apply v h _ _ (by
    rw [Shape.rowMajor_val_one, Shape.rowMajor_val_two]
    show b.val = b.val * 1 + 0
    omega)

/-- A column repeated along the rows. -/
theorem along_apply {α : Type} {B N : ℕ} (v : (⟨2, ![B, 1]⟩ : Shape).Idx → α) (h : (⟨2, ![B, 1]⟩ : Shape).Broadcasts ⟨2, ![B, N]⟩)
    (b : Fin B) (j : Fin N) : broadcastTo (⟨2, ![B, N]⟩ : Shape) v h (ix2 b j) = v (ix2 b (0 : Fin 1)) :=
  broadcastTo_apply v h _ _ fun a => by
    match a with
    | ⟨0, _⟩ =>
      show b.val = if B = 1 then 0 else b.val
      split
      · have := b.isLt; omega
      · rfl
    | ⟨1, _⟩ => rfl

theorem lift_row {B N : ℕ} (h : (⟨2, ![B, N]⟩ : Shape).Reduces [1] ⟨1, ![B]⟩) (b : Fin B) (k : Fin N) : h.lift (ix1 b) k = ix2 b k := by
  funext a
  match a with
  | ⟨0, _⟩ => rfl
  | ⟨1, _⟩ => rfl

/-- The sum of each row. -/
theorem sumRow_apply {B N : ℕ} (x : FVec Ideal ⟨2, ![B, N]⟩ .f32) (acc : BitVec 32) (h : (⟨2, ![B, N]⟩ : Shape).Reduces [1] ⟨1, ![B]⟩)
    (hφ : FKind.Formats .f32) (hacc : acc = FKind.add.neutral .f32 hφ) (b : Fin B) :
    multiReduction .add [1] (⟨1, ![B]⟩ : Shape) x acc h hφ hacc (ix1 b) = ∑ k : Fin N, x (ix2 b k) :=
  (Ideal.multiReduction_add_single x acc h hφ hacc (ix1 b)).trans (Finset.sum_congr rfl fun k _ => congrArg x (lift_row h b k))

/-- The number of ones in each row. -/
theorem countRow_apply {B N : ℕ} (p : IVec ⟨2, ![B, N]⟩ 1) (h : (⟨2, ![B, N]⟩ : Shape).Reduces [1] ⟨1, ![B]⟩) (hw : 1 < 32)
    (hacc : 0#32 = IKind.add.neutral) (b : Fin B) :
    multiReductionI .add [1] (⟨1, ![B]⟩ : Shape) (extui 32 p hw) 0#32 h hacc (ix1 b)
      = BitVec.ofNat 32 (Finset.univ.filter fun k : Fin N => p (ix2 b k) = 1#1).card := by
  classical
  rw [multiReductionI_eq_fold]
  refine (h.fold_filter_drop_single IntOp.addi 0#32 (extui 32 p hw) (ix1 b)).trans ?_
  refine Eq.trans ?_ (fold_addi_setWidth_eq_card (w := 32) (fun k : Fin N => p (ix2 b k)) Finset.univ)
  refine Finset.fold_congr fun k _ => ?_
  exact congrArg (fun i => (p i).setWidth 32) (lift_row h b k)

/-! ## The rates and their total -/

theorem rates_apply (x : FVec Ideal S8x100000 .f32) (b : Fin 8) (hx : ∀ k : Fin 100000, x (ix2 b k) ≠ ⊤) (k : Fin 100000) :
    k0_pay3 (F := Ideal) x (ix2 b k) = ((rateAt (fun k => x (ix2 b k)) k.val : ℝ) : EReal) := by
  show Ideal.exp (x (ix2 b k)) = _
  rw [exp_eq_rate (hx k), rateAt, dif_pos k.isLt]

/-- The block's row totals. -/
theorem total_apply (x : FVec Ideal S8x100000 .f32) (b : Fin 8) (hx : ∀ k : Fin 100000, x (ix2 b k) ≠ ⊤) :
    k0_pay4 (F := Ideal) x (ix2 b (0 : Fin 1)) = ((total (fun k => x (ix2 b k)) : ℝ) : EReal) := by
  refine ((asColumn_apply _ shapeCasts_S8_S8x1 b).trans
    (sumRow_apply (k0_pay3 (F := Ideal) x) 0x00000000#32 reduces_S8x100000_S8 (.inl rfl) rfl b)).trans ?_
  simp only [rates_apply x b hx]
  rw [← coe_sum, total_eq_runs, runs, Finset.sum_range]

/-- The block's running sums. -/
theorem runs_apply (x : FVec Ideal S8x100000 .f32) (b : Fin 8) (hx : ∀ k : Fin 100000, x (ix2 b k) ≠ ⊤) (j : Fin 100000) :
    k0_pay5 (F := Ideal) x (ix2 b j) = ((runs (fun k => x (ix2 b k)) (j.val + 1) : ℝ) : EReal) := by
  rw [pay5_eq]
  exact scan_apply _ (rateAt fun k => x (ix2 b k)) b (rates_apply x b hx) (fun i hi => dif_neg (by omega)) j

/-! ## The class drawn -/

/-- Where the running sums have reached the drawn share. -/
def reachedBits (s : FVec Ideal S8x1 .f32) (w : FVec Ideal S8x100000 .f32) (d : FVec Ideal S8x1 .f32) : IVec S8x100000 1 :=
  cmpf .oge w (broadcastTo S8x100000 (mulf (shapeCast S8x1 d shapeCasts_S8x1_S8x1) s) broadcasts_S8x1_S8x100000)

/-- The number of places of each row where the bit is set. -/
def counts (p : IVec S8x100000 1) : IVec S8x1 32 :=
  shapeCast S8x1 (multiReductionI .add [1] S8 (extui 32 p natLt_1_32) 0#32 reduces_S8x100000_S8 rfl) shapeCasts_S8_S8x1

theorem counts_apply (p : IVec S8x100000 1) (b : Fin 8) :
    counts p (ix2 b (0 : Fin 1)) = BitVec.ofNat 32 (Finset.univ.filter fun k : Fin 100000 => p (ix2 b k) = 1#1).card :=
  (asColumn_apply _ shapeCasts_S8_S8x1 b).trans (countRow_apply p reduces_S8x100000_S8 natLt_1_32 rfl b)

/-- The class from the count. -/
def classes (c : IVec S8x1 32) : IVec S8x1 32 :=
  select (cmpi .sge (subi (broadcast S8x1 100000#32) c) (broadcast S8x1 100000#32)) (broadcast S8x1 0#32) (subi (broadcast S8x1 100000#32) c)

/-- The row of ones at the given classes. -/
def hot (c : IVec S8x1 32) : FVec Ideal S8x100000 .f32 :=
  sitofp .f32 (extui 32 (cmpi .eq (iota .tc S8x100000 32 [1] iota_S8x100000_d1_w32) (broadcastTo S8x100000 c broadcasts_S8x1_S8x100000)) natLt_1_32)

theorem pay8_eq (s : FVec Ideal S8x1 .f32) (w : FVec Ideal S8x100000 .f32) (d n u : FVec Ideal S8x1 .f32) :
    k0_pay8 (F := Ideal) s w d n u
      = mulf (hot (classes (counts (reachedBits s w d)))) (broadcastTo S8x100000 (k0_pay7 (F := Ideal) s n u) broadcasts_S8x1_S8x100000) := rfl

/-- A comparison, at one place. -/
theorem oge_apply {s : Shape} (a b : FVec Ideal s .f32) (j : s.Idx) : cmpf .oge a b j = BitVec.ofBool (decide (b j ≤ a j)) := rfl

theorem bit_eq_one {P : Prop} [Decidable P] : BitVec.ofBool (decide P) = 1#1 ↔ P := by
  by_cases h : P <;> simp [h]

theorem reachedBits_apply (x : FVec Ideal S8x100000 .f32) (d : FVec Ideal S8x1 .f32) (b : Fin 8)
    (hx : ∀ k : Fin 100000, x (ix2 b k) ≠ ⊤) (j : Fin 100000) :
    reachedBits (k0_pay4 (F := Ideal) x) (k0_pay5 (F := Ideal) x) d (ix2 b j) = 1#1
      ↔ reachedAt (fun k => x (ix2 b k)) (d (ix2 b (0 : Fin 1))) j := by
  unfold reachedBits
  rw [oge_apply, bit_eq_one, along_apply, runs_apply x b hx, Ref.mul_apply, total_apply x b hx, shapeCast_self]
  exact Iff.rfl

/-- The class from the count, as a word. -/
theorem class_word (c : ℕ) (hc : c ≤ 100000) :
    Scalar.select (IntOp.cmpi .sge (IntOp.subi 100000#32 (BitVec.ofNat 32 c)) 100000#32) 0#32 (IntOp.subi 100000#32 (BitVec.ofNat 32 c))
      = BitVec.ofNat 32 (if 100000 ≤ 100000 - c then 0 else 100000 - c) := by
  have e : IntOp.subi 100000#32 (BitVec.ofNat 32 c) = BitVec.ofNat 32 (100000 - c) := by
    refine BitVec.eq_of_toNat_eq ?_
    show (100000#32 - BitVec.ofNat 32 c).toNat = _
    rw [BitVec.toNat_sub, BitVec.toNat_ofNat, BitVec.toNat_ofNat, BitVec.toNat_ofNat]
    omega
  rw [e]
  have hs : (100000#32).sle (BitVec.ofNat 32 (100000 - c)) = decide (100000 ≤ 100000 - c) := by
    rw [BitVec.sle, toInt_small (by omega), toInt_small (by omega)]
    exact decide_eq_decide.2 (by omega)
  unfold Scalar.select IntOp.cmpi
  simp only [hs]
  by_cases h : 100000 ≤ 100000 - c
  · simp [h]
  · simp [h]

theorem classes_apply (c : IVec S8x1 32) (j : S8x1.Idx) :
    classes c j = Scalar.select (IntOp.cmpi .sge (IntOp.subi 100000#32 (c j)) 100000#32) 0#32 (IntOp.subi 100000#32 (c j)) := rfl

/-- The class drawn in a row of the block. -/
theorem drawn_apply (x : FVec Ideal S8x100000 .f32) (d : FVec Ideal S8x1 .f32) (b : Fin 8) (hx : ∀ k : Fin 100000, x (ix2 b k) ≠ ⊤) :
    classes (counts (reachedBits (k0_pay4 (F := Ideal) x) (k0_pay5 (F := Ideal) x) d)) (ix2 b (0 : Fin 1))
      = BitVec.ofNat 32 (drawn (fun k => x (ix2 b k)) (d (ix2 b (0 : Fin 1)))) := by
  classical
  rw [classes_apply, counts_apply, class_word _ ((Finset.card_le_univ _).trans (by rw [Fintype.card_fin])), drawn,
    firstPlace_of_count _ (reachedAt_mono _ _)]
  have hf : (Finset.univ.filter fun k : Fin 100000 => reachedBits (k0_pay4 (F := Ideal) x) (k0_pay5 (F := Ideal) x) d (ix2 b k) = 1#1)
      = Finset.univ.filter (reachedAt (fun k => x (ix2 b k)) (d (ix2 b (0 : Fin 1)))) := by
    ext k
    simp only [Finset.mem_filter, Finset.mem_univ, true_and]
    exact reachedBits_apply x d b hx k
  rw [hf]

/-- An equality of words as a number, at one place. -/
theorem eq_bit_apply {s : Shape} (a c : IVec s 32) (hw : 1 < 32) (j : s.Idx) :
    sitofp (F := Ideal) .f32 (extui 32 (cmpi .eq a c) hw) j = bit (a j = c j) := Ref.sitofp_bit (a j = c j)

theorem hot_apply (c : IVec S8x1 32) (b : Fin 8) (j : Fin 100000) :
    hot c (ix2 b j) = bit (BitVec.ofNat 32 j.val = c (ix2 b (0 : Fin 1))) := by
  unfold hot
  rw [eq_bit_apply, along_apply, iota_single_apply]

/-! ## The spike and the three results -/

theorem named_inhibition : Named.named (F := Ideal) (φ := .f32) κ "inhibition1" 0x42B544ED#32 = ((inhR : ℝ) : EReal) :=
  IdealRules.named_const.ideal_named_scalar _ _ _ _ rfl

theorem named_decay : Named.named (F := Ideal) (φ := .f32) κ "decay" 0x3F519857#32 = ((decayR : ℝ) : EReal) :=
  IdealRules.named_const.ideal_named_scalar _ _ _ _ rfl

theorem noise_apply (n : FVec Ideal S8x1 .f32) (j : S8x1.Idx) : k0_pay6 (F := Ideal) n j = noiseOf (n j) := by
  show Ideal.ofBits .f32 0x447A0000#32 + Ideal.ofBits .f32 0x42480000#32 * n j = _
  rw [word_thousand, word_fifty]
  rfl

/-- The bit of a comparison with a logarithm, at one place. -/
theorem log_lt_apply {s : Shape} (a b : FVec Ideal s .f32) (hw : 1 < 32) (j : s.Idx) :
    sitofp (F := Ideal) .f32 (extui 32 (cmpf .olt (log a) b) hw) j = bit (Ideal.log (a j) < b j) := Ref.sitofp_bit _

/-- The threshold of the spike, at one place. -/
theorem threshold_apply {s : Shape} (a m : FVec Ideal s .f32) (c w : Ideal .f32) (j : s.Idx) :
    addf (addf (subf (log a) (broadcast s c)) m) (broadcast s w) j = (Ideal.log (a j) - c + m j + w : EReal) := rfl

theorem pay7_eq (s n u : FVec Ideal S8x1 .f32) :
    k0_pay7 (F := Ideal) s n u = sitofp (F := Ideal) .f32 (extui 32 (cmpf .olt (log u)
      (addf (addf (subf (log s) (broadcast S8x1 (Named.named (F := Ideal) (φ := .f32) κ "inhibition1" 0x42B544ED#32))) (k0_pay6 (F := Ideal) n))
        (broadcast S8x1 (Scalar.ofBits (F := Ideal) .f32 0xC0DD0C55#32)))) natLt_1_32) := rfl

/-- The bit of a row's spike. -/
theorem spiked_apply (x : FVec Ideal S8x100000 .f32) (n u : FVec Ideal S8x1 .f32) (b : Fin 8) (hx : ∀ k : Fin 100000, x (ix2 b k) ≠ ⊤) :
    k0_pay7 (F := Ideal) (k0_pay4 (F := Ideal) x) n u (ix2 b (0 : Fin 1))
      = bit (spikesOf (fun k => x (ix2 b k)) (n (ix2 b (0 : Fin 1))) (u (ix2 b (0 : Fin 1)))) := by
  rw [pay7_eq, log_lt_apply, threshold_apply, total_apply x b hx, noise_apply, named_inhibition]
  rfl

/-- The block's first result. -/
theorem spikes_apply (x : FVec Ideal S8x100000 .f32) (n u d : FVec Ideal S8x1 .f32) (b : Fin 8) (j : Fin 100000)
    (hx : ∀ k : Fin 100000, x (ix2 b k) ≠ ⊤) :
    k0_pay8 (F := Ideal) (k0_pay4 (F := Ideal) x) (k0_pay5 (F := Ideal) x) d n u (ix2 b j)
      = outSpike (fun k => x (ix2 b k)) (n (ix2 b (0 : Fin 1))) (u (ix2 b (0 : Fin 1))) (d (ix2 b (0 : Fin 1))) j := by
  rw [pay8_eq, Ref.mul_apply, hot_apply, along_apply, spiked_apply x n u b hx, drawn_apply x d b hx]
  unfold outSpike
  congr 2
  have hlt : drawn (fun k => x (ix2 b k)) (d (ix2 b (0 : Fin 1))) < 100000 := firstPlace_lt (by omega) _
  rw [eq_iff_iff, Ref.word_eq_iff j.isLt.le hlt.le]

/-- The second result's arithmetic, at one place. -/
theorem pay1_apply (v : FVec Ideal S8x1 .f32) (c : Ideal .f32) (j : S8x1.Idx) :
    k0_pay1 (F := Ideal) v c j = (Ideal.ofBits .f32 0x43FA0000#32 + c + v j * Ideal.ofBits .f32 0x453B8000#32 : EReal) := rfl

theorem pay9_eq : k0_pay9 (F := Ideal) = (((inhR - 500) * decayR : ℝ) : EReal) := by
  show (Named.named (F := Ideal) (φ := .f32) κ "inhibition1" 0x42B544ED#32 - Ideal.ofBits .f32 0x43FA0000#32 : EReal)
    * Named.named (F := Ideal) (φ := .f32) κ "decay" 0x3F519857#32 = _
  rw [named_inhibition, named_decay, word_fiveHundred, ← EReal.coe_sub, ← EReal.coe_mul]

/-- The block's second result. -/
theorem inhibition_apply (x : FVec Ideal S8x100000 .f32) (n u : FVec Ideal S8x1 .f32) (b : Fin 8)
    (hx : ∀ k : Fin 100000, x (ix2 b k) ≠ ⊤) :
    k0_pay1 (F := Ideal) (k0_pay7 (F := Ideal) (k0_pay4 (F := Ideal) x) n u) (k0_pay9 (F := Ideal)) (ix2 b (0 : Fin 1))
      = outInhibition (fun k => x (ix2 b k)) (n (ix2 b (0 : Fin 1))) (u (ix2 b (0 : Fin 1))) := by
  rw [pay1_apply, spiked_apply x n u b hx, pay9_eq, word_fiveHundred, word_threeThousand, ← EReal.coe_add]
  rfl

/-- The third result's arithmetic, at one place. -/
theorem pay2_apply (v n2 : FVec Ideal S8x1 .f32) (j : S8x1.Idx) :
    k0_pay2 (F := Ideal) v n2 j = (Ideal.ofBits .f32 0x447A0000#32 + (v j - Ideal.ofBits .f32 0x447A0000#32)
      * Named.named (F := Ideal) (φ := .f32) κ "decay" 0x3F519857#32 + Ideal.ofBits .f32 0x42480000#32 * n2 j : EReal) := rfl

/-- The block's third result. -/
theorem noise2_apply (n n2 : FVec Ideal S8x1 .f32) (j : S8x1.Idx) :
    k0_pay2 (F := Ideal) (k0_pay6 (F := Ideal) n) n2 j = outNoise (n j) (n2 j) := by
  rw [pay2_apply, noise_apply, named_decay, word_thousand, word_fifty]
  rfl

end OU.Ker

end
-- ==== Proof.KernelArray.lean ====
/- What the kernel's three result arrays hold after the run: at row `r` the three results of row `r` of the arguments. Point
   `t` of the grid writes rows `8 t` to `8 t + 7` of each result from the same rows of each argument. -/
module

public import proofs.«01_k».proof.Proof.Block
public import proofs.«01_k».proof.Proof.Gen.KernelIdeal.Value
public import Idealize.ShloMosaic.Lib.Pipeline.ValueKit.Geometry

@[expose] public section

noncomputable section

namespace OU.Ker

open Cert.KernelIdeal Cert.KernelIdeal.Gen Idealize.ShloMosaic Idealize.ShloMosaic.ValueIdx Idealize.ShloMosaic.TcCoe Idealize.SL.Sem
open Idealize.ShloMosaic.Pipeline (Dat)

/-! ## The body's buffers -/

theorem off_zero : (![0, 0] : Fin 2 → ℕ) = fun _ => 0 := funext fun a => by fin_cases a <;> rfl

theorem buffer5 (x : FVec Ideal S8x100000 .f32) (n u d n2 : FVec Ideal S8x1 .f32) :
    out0_5 (F := Ideal) x n u d n2 = k0_pay8 (F := Ideal) (k0_pay4 (F := Ideal) x) (k0_pay5 (F := Ideal) x) d n u := by
  unfold out0_5 k0_pay10
  rw [View.canon_unit_zero off_zero, View.ld_unit_zero off_zero, View.ld_unit_zero off_zero, View.ld_unit_zero off_zero,
    View.ld_unit_zero off_zero]

theorem buffer6 (x : FVec Ideal S8x100000 .f32) (n u d n2 : FVec Ideal S8x1 .f32) :
    out0_6 (F := Ideal) x n u d n2
      = k0_pay1 (F := Ideal) (k0_pay7 (F := Ideal) (k0_pay4 (F := Ideal) x) n u) (k0_pay9 (F := Ideal)) := by
  unfold out0_6 k0_pay10
  rw [View.canon_unit_zero off_zero, View.ld_unit_zero off_zero, View.ld_unit_zero off_zero, View.ld_unit_zero off_zero]

theorem buffer7 (x : FVec Ideal S8x100000 .f32) (n u d n2 : FVec Ideal S8x1 .f32) :
    out0_7 (F := Ideal) x n u d n2 = k0_pay2 (F := Ideal) (k0_pay6 (F := Ideal) n) n2 := by
  unfold out0_7
  rw [View.canon_unit_zero off_zero, View.ld_unit_zero off_zero, View.ld_unit_zero off_zero]

/-! ## Where the blocks lie -/

theorem points (t : Fin cfg0.N) : t.val < 16 := t.isLt

/-- Row `b` of point `t`'s block, in the array. -/
def rowOf (t : Fin cfg0.N) (b : Fin 8) : Fin 128 := ⟨t.val * 8 + b.val, by have := points t; have := b.isLt; omega⟩

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

theorem place0 (t : Fin cfg0.N) (b : Fin 8) (k : Fin 100000) : ((cfg0.win 0).blk t).view.emb (ix2 b k) = ix2 (rowOf t b) k := by
  obtain ⟨e0, e1⟩ := index0 t
  funext a; apply Fin.ext
  match a with
  | ⟨0, _⟩ => show win0_0.index t (0 : Fin 2) * 8 + 1 * b.val = t.val * 8 + b.val; rw [e0]; omega
  | ⟨1, _⟩ => show win0_0.index t (1 : Fin 2) * 100000 + 1 * k.val = k.val; rw [e1]; omega

theorem place1 (t : Fin cfg0.N) (b : Fin 8) : ((cfg0.win 1).blk t).view.emb (ix2 b (0 : Fin 1)) = ix2 (rowOf t b) (0 : Fin 1) := by
  obtain ⟨e0, e1⟩ := index1 t
  funext a; apply Fin.ext
  match a with
  | ⟨0, _⟩ => show win0_1.index t (0 : Fin 2) * 8 + 1 * b.val = t.val * 8 + b.val; rw [e0]; omega
  | ⟨1, _⟩ => show win0_1.index t (1 : Fin 2) * 1 + 1 * 0 = 0; rw [e1]

theorem place2 (t : Fin cfg0.N) (b : Fin 8) : ((cfg0.win 2).blk t).view.emb (ix2 b (0 : Fin 1)) = ix2 (rowOf t b) (0 : Fin 1) := by
  obtain ⟨e0, e1⟩ := index2 t
  funext a; apply Fin.ext
  match a with
  | ⟨0, _⟩ => show win0_2.index t (0 : Fin 2) * 8 + 1 * b.val = t.val * 8 + b.val; rw [e0]; omega
  | ⟨1, _⟩ => show win0_2.index t (1 : Fin 2) * 1 + 1 * 0 = 0; rw [e1]

theorem place3 (t : Fin cfg0.N) (b : Fin 8) : ((cfg0.win 3).blk t).view.emb (ix2 b (0 : Fin 1)) = ix2 (rowOf t b) (0 : Fin 1) := by
  obtain ⟨e0, e1⟩ := index3 t
  funext a; apply Fin.ext
  match a with
  | ⟨0, _⟩ => show win0_3.index t (0 : Fin 2) * 8 + 1 * b.val = t.val * 8 + b.val; rw [e0]; omega
  | ⟨1, _⟩ => show win0_3.index t (1 : Fin 2) * 1 + 1 * 0 = 0; rw [e1]

theorem place4 (t : Fin cfg0.N) (b : Fin 8) : ((cfg0.win 4).blk t).view.emb (ix2 b (0 : Fin 1)) = ix2 (rowOf t b) (0 : Fin 1) := by
  obtain ⟨e0, e1⟩ := index4 t
  funext a; apply Fin.ext
  match a with
  | ⟨0, _⟩ => show win0_4.index t (0 : Fin 2) * 8 + 1 * b.val = t.val * 8 + b.val; rw [e0]; omega
  | ⟨1, _⟩ => show win0_4.index t (1 : Fin 2) * 1 + 1 * 0 = 0; rw [e1]

theorem place5 (t : Fin cfg0.N) (b : Fin 8) (k : Fin 100000) : ((cfg0.win 5).blk t).view.emb (ix2 b k) = ix2 (rowOf t b) k := by
  obtain ⟨e0, e1⟩ := index5 t
  funext a; apply Fin.ext
  match a with
  | ⟨0, _⟩ => show win0_5.index t (0 : Fin 2) * 8 + 1 * b.val = t.val * 8 + b.val; rw [e0]; omega
  | ⟨1, _⟩ => show win0_5.index t (1 : Fin 2) * 100000 + 1 * k.val = k.val; rw [e1]; omega

theorem place6 (t : Fin cfg0.N) (b : Fin 8) : ((cfg0.win 6).blk t).view.emb (ix2 b (0 : Fin 1)) = ix2 (rowOf t b) (0 : Fin 1) := by
  obtain ⟨e0, e1⟩ := index6 t
  funext a; apply Fin.ext
  match a with
  | ⟨0, _⟩ => show win0_6.index t (0 : Fin 2) * 8 + 1 * b.val = t.val * 8 + b.val; rw [e0]; omega
  | ⟨1, _⟩ => show win0_6.index t (1 : Fin 2) * 1 + 1 * 0 = 0; rw [e1]

theorem place7 (t : Fin cfg0.N) (b : Fin 8) : ((cfg0.win 7).blk t).view.emb (ix2 b (0 : Fin 1)) = ix2 (rowOf t b) (0 : Fin 1) := by
  obtain ⟨e0, e1⟩ := index7 t
  funext a; apply Fin.ext
  match a with
  | ⟨0, _⟩ => show win0_7.index t (0 : Fin 2) * 8 + 1 * b.val = t.val * 8 + b.val; rw [e0]; omega
  | ⟨1, _⟩ => show win0_7.index t (1 : Fin 2) * 1 + 1 * 0 = 0; rw [e1]

/-! ## The blocks the points read -/

variable (m : (ℓ : Loc nD τ sig) → Buf (Elt Ideal) ℓ)

/-- The five arguments. -/
def argX (c : Dev nD) : FVec Ideal S128x100000 .f32 := m ((c : Thread nD τ).loc main_arg0)
def argN (c : Dev nD) : FVec Ideal S128x1 .f32 := m ((c : Thread nD τ).loc main_arg1)
def argU (c : Dev nD) : FVec Ideal S128x1 .f32 := m ((c : Thread nD τ).loc main_arg2)
def argD (c : Dev nD) : FVec Ideal S128 .f32 := m ((c : Thread nD τ).loc main_arg3)
def argN2 (c : Dev nD) : FVec Ideal S128x1 .f32 := m ((c : Thread nD τ).loc main_arg4)

/-- The fourth argument reaches the kernel as a column. -/
theorem column_arg (c : Dev nD) : V m c main_call0_v0 = broadcastInDim S128x1 ![0] bcast_S128_S128x1_0 (argD m c) := by
  show StableHlo.after hostOps0 _ (Proc.devRef .tc main_call0_v0) = _
  simp only [hostOps0, StableHlo.TRef.unary, StableHlo.TRef.toBuf, StableHlo.TRef.ofBuf, cast_eq]
  after_results_simp
  rfl

theorem block0 (c : Dev nD) (t : Fin cfg0.N) (b : Fin 8) (k : Fin 100000) :
    iblk m c 0 t (ix2 b k) = argX m c (ix2 (rowOf t b) k) := by
  show V m c main_arg0 (((cfg0.win 0).blk t).view.emb (ix2 b k)) = _
  rw [place0, V_main_arg0]
  rfl

theorem block1 (c : Dev nD) (t : Fin cfg0.N) (b : Fin 8) :
    iblk m c 1 t (ix2 b (0 : Fin 1)) = argN m c (ix2 (rowOf t b) (0 : Fin 1)) := by
  show V m c main_arg1 (((cfg0.win 1).blk t).view.emb (ix2 b (0 : Fin 1))) = _
  rw [place1, V_main_arg1]
  rfl

theorem block2 (c : Dev nD) (t : Fin cfg0.N) (b : Fin 8) :
    iblk m c 2 t (ix2 b (0 : Fin 1)) = argU m c (ix2 (rowOf t b) (0 : Fin 1)) := by
  show V m c main_arg2 (((cfg0.win 2).blk t).view.emb (ix2 b (0 : Fin 1))) = _
  rw [place2, V_main_arg2]
  rfl

theorem block3 (c : Dev nD) (t : Fin cfg0.N) (b : Fin 8) :
    iblk m c 3 t (ix2 b (0 : Fin 1)) = argD m c (ix1 (rowOf t b)) := by
  show V m c main_call0_v0 (((cfg0.win 3).blk t).view.emb (ix2 b (0 : Fin 1))) = _
  rw [place3, column_arg]
  exact broadcastInDim_apply _ _ _ _ _ fun a => by match a with | ⟨0, _⟩ => rfl

theorem block4 (c : Dev nD) (t : Fin cfg0.N) (b : Fin 8) :
    iblk m c 4 t (ix2 b (0 : Fin 1)) = argN2 m c (ix2 (rowOf t b) (0 : Fin 1)) := by
  show V m c main_arg4 (((cfg0.win 4).blk t).view.emb (ix2 b (0 : Fin 1))) = _
  rw [place4, V_main_arg4]
  rfl

/-! ## The result arrays -/

/-- The three results, row by row. -/
def resSpike (x : FVec Ideal S128x100000 .f32) (n u : FVec Ideal S128x1 .f32) (d : FVec Ideal S128 .f32) : FVec Ideal S128x100000 .f32 :=
  fun i => outSpike (fun k => x (ix2 (i 0) k)) (n (ix2 (i 0) (0 : Fin 1))) (u (ix2 (i 0) (0 : Fin 1))) (d (ix1 (i 0))) (i 1)
def resInhibition (x : FVec Ideal S128x100000 .f32) (n u : FVec Ideal S128x1 .f32) : FVec Ideal S128x1 .f32 :=
  fun i => outInhibition (fun k => x (ix2 (i 0) k)) (n (ix2 (i 0) (0 : Fin 1))) (u (ix2 (i 0) (0 : Fin 1)))
def resNoise (n n2 : FVec Ideal S128x1 .f32) : FVec Ideal S128x1 .f32 :=
  fun i => outNoise (n (ix2 (i 0) (0 : Fin 1))) (n2 (ix2 (i 0) (0 : Fin 1)))

/-- The first result array. -/
theorem final5 (c : Dev nD) (hx : ∀ i, argX m c i ≠ ⊤) :
    (dats m 0 c).arrAt 5 cfg0.N = resSpike (argX m c) (argN m c) (argU m c) (argD m c) := by
  refine (dats m 0 c).arrAt_eq_of_covers 5 (resSpike (argX m c) (argN m c) (argU m c) (argD m c)) (by decide +kernel) fun t _ y => ?_
  obtain ⟨b, k, rfl⟩ : ∃ (b : Fin 8) (k : Fin 100000), y = ix2 b k := ⟨y 0, y 1, eq_ix2 y⟩
  refine Eq.trans ?_ (congrArg (resSpike (argX m c) (argN m c) (argU m c) (argD m c)) (place5 t b k)).symm
  show (dats m 0 c).after 5 t (ix2 b k) = _
  rw [after0_5, buffer5, spikes_apply _ _ _ _ b k fun k => by rw [block0]; exact hx _]
  simp only [block0, block1, block2, block3]
  rfl

/-- The second result array. -/
theorem final6 (c : Dev nD) (hx : ∀ i, argX m c i ≠ ⊤) :
    (dats m 0 c).arrAt 6 cfg0.N = resInhibition (argX m c) (argN m c) (argU m c) := by
  refine (dats m 0 c).arrAt_eq_of_covers 6 (resInhibition (argX m c) (argN m c) (argU m c)) (by decide +kernel) fun t _ y => ?_
  obtain ⟨b, k, rfl⟩ : ∃ (b : Fin 8) (k : Fin 1), y = ix2 b k := ⟨y 0, y 1, eq_ix2 y⟩
  obtain rfl : k = 0 := Subsingleton.elim _ _
  refine Eq.trans ?_ (congrArg (resInhibition (argX m c) (argN m c) (argU m c)) (place6 t b)).symm
  show (dats m 0 c).after 6 t (ix2 b (0 : Fin 1)) = _
  rw [after0_6, buffer6, inhibition_apply _ _ _ b fun k => by rw [block0]; exact hx _]
  simp only [block0, block1, block2]
  rfl

/-- The third result array. -/
theorem final7 (c : Dev nD) : (dats m 0 c).arrAt 7 cfg0.N = resNoise (argN m c) (argN2 m c) := by
  refine (dats m 0 c).arrAt_eq_of_covers 7 (resNoise (argN m c) (argN2 m c)) (by decide +kernel) fun t _ y => ?_
  obtain ⟨b, k, rfl⟩ : ∃ (b : Fin 8) (k : Fin 1), y = ix2 b k := ⟨y 0, y 1, eq_ix2 y⟩
  obtain rfl : k = 0 := Subsingleton.elim _ _
  refine Eq.trans ?_ (congrArg (resNoise (argN m c) (argN2 m c)) (place7 t b)).symm
  show (dats m 0 c).after 7 t (ix2 b (0 : Fin 1)) = _
  rw [after0_7, buffer7, noise2_apply, block1, block4]
  rfl

end OU.Ker

end
-- ==== Proof.RefRun.lean ====
/- The reference's run: its operations in order, and what its results and arguments hold at the end. -/
module

public import proofs.«01_k».proof.Proof.RefTerms

@[expose] public section

noncomputable section

namespace OU.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations in program order. -/
abbrev refOps : List (HloOp τ sig (Elt F)) :=
  [ nullary main_cst (constant S_ .f32 0x3F519857#32),
    nullary main_cst_0 (constant S_ .f32 0xB29E99EA#32),
    binary main_cst main_cst_0 main_v0 (addf : (⟨S_, .f32⟩ : BufTy).Contents (Elt F) → (⟨S_, .f32⟩ : BufTy).Contents (Elt F) → (⟨S_, .f32⟩ : BufTy).Contents (Elt F)),
    nullary main_cst_1 (constant S_ .f32 0xA6600000#32),
    binary main_v0 main_cst_1 main_v1 (addf : (⟨S_, .f32⟩ : BufTy).Contents (Elt F) → (⟨S_, .f32⟩ : BufTy).Contents (Elt F) → (⟨S_, .f32⟩ : BufTy).Contents (Elt F)),
    nullary main_cst_2 (constant S_ .f32 0x3F519857#32),
    nullary main_cst_3 (constant S_ .f32 0xB29E99EA#32),
    binary main_cst_2 main_cst_3 main_v2 (addf : (⟨S_, .f32⟩ : BufTy).Contents (Elt F) → (⟨S_, .f32⟩ : BufTy).Contents (Elt F) → (⟨S_, .f32⟩ : BufTy).Contents (Elt F)),
    nullary main_cst_4 (constant S_ .f32 0xA6600000#32),
    binary main_v2 main_cst_4 main_v3 (addf : (⟨S_, .f32⟩ : BufTy).Contents (Elt F) → (⟨S_, .f32⟩ : BufTy).Contents (Elt F) → (⟨S_, .f32⟩ : BufTy).Contents (Elt F)),
    nullary main_cst_5 (constant S_ .f32 0x00000000#32),
    unary main_cst_5 main_v4 (broadcastInDim S128x1 ![] bcast_S_S128x1 : (⟨S_, .f32⟩ : BufTy).Contents (Elt F) → (⟨S128x1, .f32⟩ : BufTy).Contents (Elt F)),
    nullary main_cst_6 (constant S_ .f32 0x3F800000#32),
    unary main_cst_6 main_v5 (broadcastInDim S128x1 ![] bcast_S_S128x1 : (⟨S_, .f32⟩ : BufTy).Contents (Elt F) → (⟨S128x1, .f32⟩ : BufTy).Contents (Elt F)),
    nullary main_cst_7 (constant S_ .f32 0x447A0000#32),
    unary main_cst_7 main_v6 (broadcastInDim S128x1 ![] bcast_S_S128x1 : (⟨S_, .f32⟩ : BufTy).Contents (Elt F) → (⟨S128x1, .f32⟩ : BufTy).Contents (Elt F)),
    binary main_v5 main_v6 main_v7 (mulf : (⟨S128x1, .f32⟩ : BufTy).Contents (Elt F) → (⟨S128x1, .f32⟩ : BufTy).Contents (Elt F) → (⟨S128x1, .f32⟩ : BufTy).Contents (Elt F)),
    nullary main_cst_8 (constant S_ .f32 0x43FA0000#32),
    unary main_cst_8 main_v8 (broadcastInDim S128x1 ![] bcast_S_S128x1 : (⟨S_, .f32⟩ : BufTy).Contents (Elt F) → (⟨S128x1, .f32⟩ : BufTy).Contents (Elt F)),
    binary main_v4 main_v8 main_v9 (subf : (⟨S128x1, .f32⟩ : BufTy).Contents (Elt F) → (⟨S128x1, .f32⟩ : BufTy).Contents (Elt F) → (⟨S128x1, .f32⟩ : BufTy).Contents (Elt F)),
    unary main_v1 main_v10 (broadcastInDim S128x1 ![] bcast_S_S128x1 : (⟨S_, .f32⟩ : BufTy).Contents (Elt F) → (⟨S128x1, .f32⟩ : BufTy).Contents (Elt F)),
    binary main_v9 main_v10 main_v11 (mulf : (⟨S128x1, .f32⟩ : BufTy).Contents (Elt F) → (⟨S128x1, .f32⟩ : BufTy).Contents (Elt F) → (⟨S128x1, .f32⟩ : BufTy).Contents (Elt F)),
    nullary main_cst_9 (constant S_ .f32 0x43FA0000#32),
    unary main_cst_9 main_v12 (broadcastInDim S128x1 ![] bcast_S_S128x1 : (⟨S_, .f32⟩ : BufTy).Contents (Elt F) → (⟨S128x1, .f32⟩ : BufTy).Contents (Elt F)),
    binary main_v12 main_v11 main_v13 (addf : (⟨S128x1, .f32⟩ : BufTy).Contents (Elt F) → (⟨S128x1, .f32⟩ : BufTy).Contents (Elt F) → (⟨S128x1, .f32⟩ : BufTy).Contents (Elt F)),
    nullary main_cst_10 (constant S_ .f32 0x447A0000#32),
    unary main_cst_10 main_v14 (broadcastInDim S128x1 ![] bcast_S_S128x1 : (⟨S_, .f32⟩ : BufTy).Contents (Elt F) → (⟨S128x1, .f32⟩ : BufTy).Contents (Elt F)),
    binary main_v7 main_v14 main_v15 (subf : (⟨S128x1, .f32⟩ : BufTy).Contents (Elt F) → (⟨S128x1, .f32⟩ : BufTy).Contents (Elt F) → (⟨S128x1, .f32⟩ : BufTy).Contents (Elt F)),
    unary main_v3 main_v16 (broadcastInDim S128x1 ![] bcast_S_S128x1 : (⟨S_, .f32⟩ : BufTy).Contents (Elt F) → (⟨S128x1, .f32⟩ : BufTy).Contents (Elt F)),
    binary main_v15 main_v16 main_v17 (mulf : (⟨S128x1, .f32⟩ : BufTy).Contents (Elt F) → (⟨S128x1, .f32⟩ : BufTy).Contents (Elt F) → (⟨S128x1, .f32⟩ : BufTy).Contents (Elt F)),
    nullary main_cst_11 (constant S_ .f32 0x447A0000#32),
    unary main_cst_11 main_v18 (broadcastInDim S128x1 ![] bcast_S_S128x1 : (⟨S_, .f32⟩ : BufTy).Contents (Elt F) → (⟨S128x1, .f32⟩ : BufTy).Contents (Elt F)),
    binary main_v18 main_v17 main_v19 (addf : (⟨S128x1, .f32⟩ : BufTy).Contents (Elt F) → (⟨S128x1, .f32⟩ : BufTy).Contents (Elt F) → (⟨S128x1, .f32⟩ : BufTy).Contents (Elt F)),
    nullary main_cst_12 (constant S_ .f32 0x42480000#32),
    unary main_cst_12 main_v20 (broadcastInDim S128x1 ![] bcast_S_S128x1 : (⟨S_, .f32⟩ : BufTy).Contents (Elt F) → (⟨S128x1, .f32⟩ : BufTy).Contents (Elt F)),
    binary main_v20 main_arg1 main_v21 (mulf : (⟨S128x1, .f32⟩ : BufTy).Contents (Elt F) → (⟨S128x1, .f32⟩ : BufTy).Contents (Elt F) → (⟨S128x1, .f32⟩ : BufTy).Contents (Elt F)),
    binary main_v19 main_v21 main_v22 (addf : (⟨S128x1, .f32⟩ : BufTy).Contents (Elt F) → (⟨S128x1, .f32⟩ : BufTy).Contents (Elt F) → (⟨S128x1, .f32⟩ : BufTy).Contents (Elt F)),
    unary main_v13 main_v23 (broadcastInDim S128x100000 ![0, 1] bcast_S128x1_S128x100000_0_1 : (⟨S128x1, .f32⟩ : BufTy).Contents (Elt F) → (⟨S128x100000, .f32⟩ : BufTy).Contents (Elt F)),
    binary main_arg0 main_v23 main_v24 (subf : (⟨S128x100000, .f32⟩ : BufTy).Contents (Elt F) → (⟨S128x100000, .f32⟩ : BufTy).Contents (Elt F) → (⟨S128x100000, .f32⟩ : BufTy).Contents (Elt F)),
    unary main_v22 main_v25 (broadcastInDim S128x100000 ![0, 1] bcast_S128x1_S128x100000_0_1 : (⟨S128x1, .f32⟩ : BufTy).Contents (Elt F) → (⟨S128x100000, .f32⟩ : BufTy).Contents (Elt F)),
    binary main_v24 main_v25 main_v26 (addf : (⟨S128x100000, .f32⟩ : BufTy).Contents (Elt F) → (⟨S128x100000, .f32⟩ : BufTy).Contents (Elt F) → (⟨S128x100000, .f32⟩ : BufTy).Contents (Elt F)),
    unary main_arg0 main_v27 (Host.exp : (⟨S128x100000, .f32⟩ : BufTy).Contents (Elt F) → (⟨S128x100000, .f32⟩ : BufTy).Contents (Elt F)),
    nullary main_cst_13 (constant S_ .f32 0xFF800000#32),
    binary main_v26 main_cst_13 main_v28 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v28 main_v29 (broadcastInDim S128x1 ![0] bcast_S128_S128x1_0 : (⟨S128, .f32⟩ : BufTy).Contents (Elt F) → (⟨S128x1, .f32⟩ : BufTy).Contents (Elt F)),
    unary main_v29 main_v30 (Host.absf : (⟨S128x1, .f32⟩ : BufTy).Contents (Elt F) → (⟨S128x1, .f32⟩ : BufTy).Contents (Elt F)),
    nullary main_cst_14 (constant S_ .f32 0x7F800000#32),
    unary main_cst_14 main_v31 (broadcastInDim S128x1 ![] bcast_S_S128x1 : (⟨S_, .f32⟩ : BufTy).Contents (Elt F) → (⟨S128x1, .f32⟩ : BufTy).Contents (Elt F)),
    binary main_v30 main_v31 main_v32 (cmpf .olt : (⟨S128x1, .f32⟩ : BufTy).Contents (Elt F) → (⟨S128x1, .f32⟩ : BufTy).Contents (Elt F) → (⟨S128x1, .i1⟩ : BufTy).Contents (Elt F)),
    nullary main_cst_15 (constant S_ .f32 0x00000000#32),
    TRef.unary (TRef.of (T := ⟨S_, .f32⟩) main_cst_15) (TRef.of (T := ⟨S_, .f32⟩) main_call0_v0) id,
    TRef.unary (TRef.of (T := ⟨S_, .f32⟩) main_call0_v0) (TRef.of (T := ⟨S128x1, .f32⟩) main_call0_v1) (broadcastInDim S128x1 ![] bcast_S_S128x1),
    TRef.ternary (TRef.of (T := ⟨S128x1, .i1⟩) main_v32) (TRef.of (T := ⟨S128x1, .f32⟩) main_v29) (TRef.of (T := ⟨S128x1, .f32⟩) main_call0_v1) (TRef.of (T := ⟨S128x1, .f32⟩) main_v33) select,
    unary main_v33 main_v34 (broadcastInDim S128x100000 ![0, 1] bcast_S128x1_S128x100000_0_1 : (⟨S128x1, .f32⟩ : BufTy).Contents (Elt F) → (⟨S128x100000, .f32⟩ : BufTy).Contents (Elt F)),
    binary main_v26 main_v34 main_v35 (subf : (⟨S128x100000, .f32⟩ : BufTy).Contents (Elt F) → (⟨S128x100000, .f32⟩ : BufTy).Contents (Elt F) → (⟨S128x100000, .f32⟩ : BufTy).Contents (Elt F)),
    unary main_v35 main_v36 (Host.exp : (⟨S128x100000, .f32⟩ : BufTy).Contents (Elt F) → (⟨S128x100000, .f32⟩ : BufTy).Contents (Elt F)),
    nullary main_cst_16 (constant S_ .f32 0x00000000#32),
    binary main_v36 main_cst_16 main_v37 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v37 main_v38 (broadcastInDim S128x1 ![0] bcast_S128_S128x1_0 : (⟨S128, .f32⟩ : BufTy).Contents (Elt F) → (⟨S128x1, .f32⟩ : BufTy).Contents (Elt F)),
    unary main_v38 main_v39 (Host.log : (⟨S128x1, .f32⟩ : BufTy).Contents (Elt F) → (⟨S128x1, .f32⟩ : BufTy).Contents (Elt F)),
    binary main_v39 main_v33 main_v40 (addf : (⟨S128x1, .f32⟩ : BufTy).Contents (Elt F) → (⟨S128x1, .f32⟩ : BufTy).Contents (Elt F) → (⟨S128x1, .f32⟩ : BufTy).Contents (Elt F)),
    unary main_arg2 main_v41 (Host.log : (⟨S128x1, .f32⟩ : BufTy).Contents (Elt F) → (⟨S128x1, .f32⟩ : BufTy).Contents (Elt F)),
    nullary main_cst_17 (constant S_ .f32 0xC0DD0C55#32),
    unary main_cst_17 main_v42 (broadcastInDim S128x1 ![] bcast_S_S128x1 : (⟨S_, .f32⟩ : BufTy).Contents (Elt F) → (⟨S128x1, .f32⟩ : BufTy).Contents (Elt F)),
    binary main_v40 main_v42 main_v43 (addf : (⟨S128x1, .f32⟩ : BufTy).Contents (Elt F) → (⟨S128x1, .f32⟩ : BufTy).Contents (Elt F) → (⟨S128x1, .f32⟩ : BufTy).Contents (Elt F)),
    binary main_v41 main_v43 main_v44 (cmpf .olt : (⟨S128x1, .f32⟩ : BufTy).Contents (Elt F) → (⟨S128x1, .f32⟩ : BufTy).Contents (Elt F) → (⟨S128x1, .i1⟩ : BufTy).Contents (Elt F)),
    nullary main_cst_18 (constant S_ .f32 0x00000000#32),
    binary main_v27 main_cst_18 main_v45 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v45 main_v46 (broadcastInDim S128x1 ![0] bcast_S128_S128x1_0 : (⟨S128, .f32⟩ : BufTy).Contents (Elt F) → (⟨S128x1, .f32⟩ : BufTy).Contents (Elt F)),
    unary main_v46 main_v47 (broadcastInDim S128x100000 ![0, 1] bcast_S128x1_S128x100000_0_1 : (⟨S128x1, .f32⟩ : BufTy).Contents (Elt F) → (⟨S128x100000, .f32⟩ : BufTy).Contents (Elt F)),
    binary main_v27 main_v47 main_v48 (Host.divf : (⟨S128x100000, .f32⟩ : BufTy).Contents (Elt F) → (⟨S128x100000, .f32⟩ : BufTy).Contents (Elt F) → (⟨S128x100000, .f32⟩ : BufTy).Contents (Elt F)),
    TRef.nullary (TRef.of (T := ⟨S_, .f32⟩) main_call1_call0_cst) (constant S_ .f32 0x00000000#32),
    TRef.unary (TRef.of (T := ⟨S_, .f32⟩) main_call1_call0_cst) (TRef.of (T := ⟨S_, .f32⟩) main_call1_call0_v0) (broadcastInDim S_ ![] bcast_S_S_),
    TRef.binary (TRef.of (T := ⟨S128x100000, .f32⟩) main_v48) (TRef.of (T := ⟨S_, .f32⟩) main_call1_call0_v0) (TRef.of (T := ⟨S128x100000, .f32⟩) main_v49) (fun x v => Host.reduceWindowAdd ![1, 100000] ![1, 1] ![0, 99999] ![0, 0] x v reduceWindows_S128x100000_S128x100000_w1s1p0_0_w100000s1p99999_0 h_S_),
    unary main_arg3 main_v50 (broadcastInDim S128x1 ![0] bcast_S128_S128x1_0 : (⟨S128, .f32⟩ : BufTy).Contents (Elt F) → (⟨S128x1, .f32⟩ : BufTy).Contents (Elt F)),
    unary main_v50 main_v51 (broadcastInDim S128x100000 ![0, 1] bcast_S128x1_S128x100000_0_1 : (⟨S128x1, .f32⟩ : BufTy).Contents (Elt F) → (⟨S128x100000, .f32⟩ : BufTy).Contents (Elt F)),
    binary main_v49 main_v51 main_v52 (cmpf .oge : (⟨S128x100000, .f32⟩ : BufTy).Contents (Elt F) → (⟨S128x100000, .f32⟩ : BufTy).Contents (Elt F) → (⟨S128x100000, .i1⟩ : BufTy).Contents (Elt F)),
    unary main_v52 main_v53 ((extui 8 · natLt_1_8) : (⟨S128x100000, .i1⟩ : BufTy).Contents (Elt F) → (⟨S128x100000, .i8⟩ : BufTy).Contents (Elt F)),
    TRef.nullary (TRef.of (T := ⟨S128x100000, .i32⟩) main_call2_v0) (iotaInDim S128x100000 32 1),
    TRef.nullary (TRef.of (T := ⟨S_, .i8⟩) main_call2_c) (constantI S_ 8 0#8),
    TRef.nullary (TRef.of (T := ⟨S_, .i32⟩) main_call2_c_0) (constantI S_ 32 0#32),
    TRef.quaternary (TRef.of (T := ⟨S128x100000, .i8⟩) main_v53) (TRef.of (T := ⟨S128x100000, .i32⟩) main_call2_v0) (TRef.of (T := ⟨S_, .i8⟩) main_call2_c) (TRef.of (T := ⟨S_, .i32⟩) main_call2_c_0) (TRef.of (T := ⟨S128, .i8⟩) main_call2_v1_0) (fun x y u v j => (Host.reduce2 reducer_argmax_i8_i32 x y u v reducesTo_S128x100000_S128_d1 h_S_ j).1),
    TRef.quaternary (TRef.of (T := ⟨S128x100000, .i8⟩) main_v53) (TRef.of (T := ⟨S128x100000, .i32⟩) main_call2_v0) (TRef.of (T := ⟨S_, .i8⟩) main_call2_c) (TRef.of (T := ⟨S_, .i32⟩) main_call2_c_0) (TRef.of (T := ⟨S128, .i32⟩) main_v54) (fun x y u v j => (Host.reduce2 reducer_argmax_i8_i32 x y u v reducesTo_S128x100000_S128_d1 h_S_ j).2),
    TRef.unary (TRef.of (T := ⟨S128, .i32⟩) main_v54) (TRef.of (T := ⟨S128x1, .i32⟩) main_call3_v0) (broadcastInDim S128x1 ![0] bcast_S128_S128x1_0),
    TRef.nullary (TRef.of (T := ⟨S1x100000, .i32⟩) main_call3_v1) (iotaInDim S1x100000 32 1),
    TRef.unary (TRef.of (T := ⟨S128x1, .i32⟩) main_call3_v0) (TRef.of (T := ⟨S128x100000, .i32⟩) main_call3_v2) (broadcastInDim S128x100000 ![0, 1] bcast_S128x1_S128x100000_0_1),
    TRef.unary (TRef.of (T := ⟨S1x100000, .i32⟩) main_call3_v1) (TRef.of (T := ⟨S128x100000, .i32⟩) main_call3_v3) (broadcastInDim S128x100000 ![0, 1] bcast_S1x100000_S128x100000_0_1),
    TRef.binary (TRef.of (T := ⟨S128x100000, .i32⟩) main_call3_v2) (TRef.of (T := ⟨S128x100000, .i32⟩) main_call3_v3) (TRef.of (T := ⟨S128x100000, .i1⟩) main_call3_v4) (cmpi .eq),
    TRef.unary (TRef.of (T := ⟨S128x100000, .i1⟩) main_call3_v4) (TRef.of (T := ⟨S128x100000, .f32⟩) main_v55) (uitofp .f32),
    unary main_v44 main_v56 (uitofp .f32 : (⟨S128x1, .i1⟩ : BufTy).Contents (Elt F) → (⟨S128x1, .f32⟩ : BufTy).Contents (Elt F)),
    unary main_v56 main_v57 (broadcastInDim S128x100000 ![0, 1] bcast_S128x1_S128x100000_0_1 : (⟨S128x1, .f32⟩ : BufTy).Contents (Elt F) → (⟨S128x100000, .f32⟩ : BufTy).Contents (Elt F)),
    binary main_v55 main_v57 main_v58 (mulf : (⟨S128x100000, .f32⟩ : BufTy).Contents (Elt F) → (⟨S128x100000, .f32⟩ : BufTy).Contents (Elt F) → (⟨S128x100000, .f32⟩ : BufTy).Contents (Elt F)),
    unary main_v44 main_v59 (uitofp .f32 : (⟨S128x1, .i1⟩ : BufTy).Contents (Elt F) → (⟨S128x1, .f32⟩ : BufTy).Contents (Elt F)),
    nullary main_cst_19 (constant S_ .f32 0x43FA0000#32),
    unary main_cst_19 main_v60 (broadcastInDim S128x1 ![] bcast_S_S128x1 : (⟨S_, .f32⟩ : BufTy).Contents (Elt F) → (⟨S128x1, .f32⟩ : BufTy).Contents (Elt F)),
    binary main_v13 main_v60 main_v61 (subf : (⟨S128x1, .f32⟩ : BufTy).Contents (Elt F) → (⟨S128x1, .f32⟩ : BufTy).Contents (Elt F) → (⟨S128x1, .f32⟩ : BufTy).Contents (Elt F)),
    unary main_v1 main_v62 (broadcastInDim S128x1 ![] bcast_S_S128x1 : (⟨S_, .f32⟩ : BufTy).Contents (Elt F) → (⟨S128x1, .f32⟩ : BufTy).Contents (Elt F)),
    binary main_v61 main_v62 main_v63 (mulf : (⟨S128x1, .f32⟩ : BufTy).Contents (Elt F) → (⟨S128x1, .f32⟩ : BufTy).Contents (Elt F) → (⟨S128x1, .f32⟩ : BufTy).Contents (Elt F)),
    nullary main_cst_20 (constant S_ .f32 0x43FA0000#32),
    unary main_cst_20 main_v64 (broadcastInDim S128x1 ![] bcast_S_S128x1 : (⟨S_, .f32⟩ : BufTy).Contents (Elt F) → (⟨S128x1, .f32⟩ : BufTy).Contents (Elt F)),
    binary main_v64 main_v63 main_v65 (addf : (⟨S128x1, .f32⟩ : BufTy).Contents (Elt F) → (⟨S128x1, .f32⟩ : BufTy).Contents (Elt F) → (⟨S128x1, .f32⟩ : BufTy).Contents (Elt F)),
    nullary main_cst_21 (constant S_ .f32 0x453B8000#32),
    unary main_cst_21 main_v66 (broadcastInDim S128x1 ![] bcast_S_S128x1 : (⟨S_, .f32⟩ : BufTy).Contents (Elt F) → (⟨S128x1, .f32⟩ : BufTy).Contents (Elt F)),
    binary main_v59 main_v66 main_v67 (mulf : (⟨S128x1, .f32⟩ : BufTy).Contents (Elt F) → (⟨S128x1, .f32⟩ : BufTy).Contents (Elt F) → (⟨S128x1, .f32⟩ : BufTy).Contents (Elt F)),
    binary main_v65 main_v67 main_v68 (addf : (⟨S128x1, .f32⟩ : BufTy).Contents (Elt F) → (⟨S128x1, .f32⟩ : BufTy).Contents (Elt F) → (⟨S128x1, .f32⟩ : BufTy).Contents (Elt F)),
    nullary main_cst_22 (constant S_ .f32 0x447A0000#32),
    unary main_cst_22 main_v69 (broadcastInDim S128x1 ![] bcast_S_S128x1 : (⟨S_, .f32⟩ : BufTy).Contents (Elt F) → (⟨S128x1, .f32⟩ : BufTy).Contents (Elt F)),
    binary main_v22 main_v69 main_v70 (subf : (⟨S128x1, .f32⟩ : BufTy).Contents (Elt F) → (⟨S128x1, .f32⟩ : BufTy).Contents (Elt F) → (⟨S128x1, .f32⟩ : BufTy).Contents (Elt F)),
    unary main_v3 main_v71 (broadcastInDim S128x1 ![] bcast_S_S128x1 : (⟨S_, .f32⟩ : BufTy).Contents (Elt F) → (⟨S128x1, .f32⟩ : BufTy).Contents (Elt F)),
    binary main_v70 main_v71 main_v72 (mulf : (⟨S128x1, .f32⟩ : BufTy).Contents (Elt F) → (⟨S128x1, .f32⟩ : BufTy).Contents (Elt F) → (⟨S128x1, .f32⟩ : BufTy).Contents (Elt F)),
    nullary main_cst_23 (constant S_ .f32 0x447A0000#32),
    unary main_cst_23 main_v73 (broadcastInDim S128x1 ![] bcast_S_S128x1 : (⟨S_, .f32⟩ : BufTy).Contents (Elt F) → (⟨S128x1, .f32⟩ : BufTy).Contents (Elt F)),
    binary main_v73 main_v72 main_v74 (addf : (⟨S128x1, .f32⟩ : BufTy).Contents (Elt F) → (⟨S128x1, .f32⟩ : BufTy).Contents (Elt F) → (⟨S128x1, .f32⟩ : BufTy).Contents (Elt F)),
    nullary main_cst_24 (constant S_ .f32 0x42480000#32),
    unary main_cst_24 main_v75 (broadcastInDim S128x1 ![] bcast_S_S128x1 : (⟨S_, .f32⟩ : BufTy).Contents (Elt F) → (⟨S128x1, .f32⟩ : BufTy).Contents (Elt F)),
    binary main_v75 main_arg4 main_v76 (mulf : (⟨S128x1, .f32⟩ : BufTy).Contents (Elt F) → (⟨S128x1, .f32⟩ : BufTy).Contents (Elt F) → (⟨S128x1, .f32⟩ : BufTy).Contents (Elt F)),
    binary main_v74 main_v76 main_v77 (addf : (⟨S128x1, .f32⟩ : BufTy).Contents (Elt F) → (⟨S128x1, .f32⟩ : BufTy).Contents (Elt F) → (⟨S128x1, .f32⟩ : BufTy).Contents (Elt F)) ]

set_option maxRecDepth 8192 in
set_option maxHeartbeats 4000000 in
/-- The program is its operations one after another. -/
theorem main_is_seq (c : Dev nD) : main (F := F) c = seq refOps := rfl

/-- No buffer of the program is scoped. -/
theorem no_scoped_refs : (Finset.univ.filter fun b : Ref sig .tc => b.isScoped) = ∅ := by decide

/-- No semaphore of the program is scoped. -/
theorem no_scoped_sems : (Finset.univ.filter fun sm : SemLoc sig => sm.isScoped .tc) = ∅ := by decide

set_option maxRecDepth 8192 in
/-- Every operation touches buffers of the device alone. -/
theorem refOps_local : (refOps : List (HloOp τ sig (Elt F))).Forall fun op => op.bufs ⊆ tcRefs τ sig :=
  ⟨nullary_bufs_sub .., nullary_bufs_sub .., binary_bufs_sub .., nullary_bufs_sub .., binary_bufs_sub .., nullary_bufs_sub ..,
   nullary_bufs_sub .., binary_bufs_sub .., nullary_bufs_sub .., binary_bufs_sub .., nullary_bufs_sub .., unary_bufs_sub ..,
   nullary_bufs_sub .., unary_bufs_sub .., nullary_bufs_sub .., unary_bufs_sub .., binary_bufs_sub .., nullary_bufs_sub ..,
   unary_bufs_sub .., binary_bufs_sub .., unary_bufs_sub .., binary_bufs_sub .., nullary_bufs_sub .., unary_bufs_sub ..,
   binary_bufs_sub .., nullary_bufs_sub .., unary_bufs_sub .., binary_bufs_sub .., unary_bufs_sub .., binary_bufs_sub ..,
   nullary_bufs_sub .., unary_bufs_sub .., binary_bufs_sub .., nullary_bufs_sub .., unary_bufs_sub .., binary_bufs_sub ..,
   binary_bufs_sub .., unary_bufs_sub .., binary_bufs_sub .., unary_bufs_sub .., binary_bufs_sub .., unary_bufs_sub ..,
   nullary_bufs_sub .., binary_bufs_sub .., unary_bufs_sub .., unary_bufs_sub .., nullary_bufs_sub .., unary_bufs_sub ..,
   binary_bufs_sub .., nullary_bufs_sub .., unary_bufs_sub .., unary_bufs_sub .., ternary_bufs_sub .., unary_bufs_sub ..,
   binary_bufs_sub .., unary_bufs_sub .., nullary_bufs_sub .., binary_bufs_sub .., unary_bufs_sub .., unary_bufs_sub ..,
   binary_bufs_sub .., unary_bufs_sub .., nullary_bufs_sub .., unary_bufs_sub .., binary_bufs_sub .., binary_bufs_sub ..,
   nullary_bufs_sub .., binary_bufs_sub .., unary_bufs_sub .., unary_bufs_sub .., binary_bufs_sub .., nullary_bufs_sub ..,
   unary_bufs_sub .., binary_bufs_sub .., unary_bufs_sub .., unary_bufs_sub .., binary_bufs_sub .., unary_bufs_sub ..,
   nullary_bufs_sub .., nullary_bufs_sub .., nullary_bufs_sub .., quaternary_bufs_sub .., quaternary_bufs_sub .., unary_bufs_sub ..,
   nullary_bufs_sub .., unary_bufs_sub .., unary_bufs_sub .., binary_bufs_sub .., unary_bufs_sub .., unary_bufs_sub ..,
   unary_bufs_sub .., binary_bufs_sub .., unary_bufs_sub .., nullary_bufs_sub .., unary_bufs_sub .., binary_bufs_sub ..,
   unary_bufs_sub .., binary_bufs_sub .., nullary_bufs_sub .., unary_bufs_sub .., binary_bufs_sub .., nullary_bufs_sub ..,
   unary_bufs_sub .., binary_bufs_sub .., binary_bufs_sub .., nullary_bufs_sub .., unary_bufs_sub .., binary_bufs_sub ..,
   unary_bufs_sub .., binary_bufs_sub .., nullary_bufs_sub .., unary_bufs_sub .., binary_bufs_sub .., nullary_bufs_sub ..,
   unary_bufs_sub .., binary_bufs_sub .., binary_bufs_sub ..⟩

set_option maxRecDepth 8192 in
set_option maxHeartbeats 46000000 in
/-- The reference ends with its three results as `spikes`, `inhibition2` and `noise2` of its arguments, and its
    arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = spikes (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v68) = inhibition2 (m ((c.tc : Thread nD τ).loc main_arg0)) (m ((c.tc : Thread nD τ).loc main_arg1))
          (m ((c.tc : Thread nD τ).loc main_arg2))
      ∧ r.2.mem ((c.tc : Thread nD τ).loc main_v77) = noise2 (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v58).trans (by simp only [refOps, TRef.quaternary, TRef.ternary, TRef.binary, TRef.nullary, TRef.unary, TRef.toBuf, TRef.ofBuf, cast_eq]; after_results_simp <;> rfl),
      (h c main_v68).trans (by simp only [refOps, TRef.quaternary, TRef.ternary, TRef.binary, TRef.nullary, TRef.unary, TRef.toBuf, TRef.ofBuf, cast_eq]; after_results_simp <;> rfl),
      (h c main_v77).trans (by simp only [refOps, TRef.quaternary, TRef.ternary, TRef.binary, TRef.nullary, TRef.unary, TRef.toBuf, TRef.ofBuf, cast_eq]; after_results_simp <;> rfl),
      (h c main_arg0).trans (by simp only [refOps, TRef.quaternary, TRef.ternary, TRef.binary, TRef.nullary, TRef.unary, TRef.toBuf, TRef.ofBuf, cast_eq]; after_results_simp),
      (h c main_arg1).trans (by simp only [refOps, TRef.quaternary, TRef.ternary, TRef.binary, TRef.nullary, TRef.unary, TRef.toBuf, TRef.ofBuf, cast_eq]; after_results_simp),
      (h c main_arg2).trans (by simp only [refOps, TRef.quaternary, TRef.ternary, TRef.binary, TRef.nullary, TRef.unary, TRef.toBuf, TRef.ofBuf, cast_eq]; after_results_simp),
      (h c main_arg3).trans (by simp only [refOps, TRef.quaternary, TRef.ternary, TRef.binary, TRef.nullary, TRef.unary, TRef.toBuf, TRef.ofBuf, cast_eq]; after_results_simp),
      (h c main_arg4).trans (by simp only [refOps, TRef.quaternary, TRef.ternary, TRef.binary, TRef.nullary, TRef.unary, TRef.toBuf, TRef.ofBuf, cast_eq]; after_results_simp)⟩)
    (run_seq no_scoped_refs no_scoped_sems defs main (fun _ => refOps) main_is_seq (fun _ => refOps_local) m ρ)

end OU.Ref

end
-- ==== Proof.Equation.lean ====
/- The two programs' results are the same arrays: both are, row by row, the three results of the row. -/
module

public import proofs.«01_k».proof.Defs
public import proofs.«01_k».proof.Proof.KernelArray
public import proofs.«01_k».proof.Proof.RefRun
public import Idealize.ShloMosaic.Lib.Quiescent

@[expose] public section

noncomputable section

namespace OU

open Idealize.ShloMosaic Idealize.ShloMosaic.ValueIdx Idealize.ShloMosaic.TcCoe Idealize.SL.Sem

/-- The precondition's side condition. -/
instance below_facts : Cert.Pre_inputs_below_inf.Facts := ⟨by decide⟩

/-- The precondition says that no entry of the first argument is `⊤`. -/
theorem below_inf (x : FVec Ideal Cert.Pre_inputs_below_inf.S128x100000 .f32) (n u : FVec Ideal Cert.Pre_inputs_below_inf.S128x1 .f32)
    (d : FVec Ideal Cert.Pre_inputs_below_inf.S128 .f32) (n2 : FVec Ideal Cert.Pre_inputs_below_inf.S128x1 .f32)
    (h : Cert.Pre_inputs_below_inf.fn (F := Ideal) x n u d n2 = fun _ => 1#1) (i : Cert.Pre_inputs_below_inf.S128x100000.Idx) : x i ≠ ⊤ := by
  have e := congrFun h i
  have e' : Ideal.cmp .olt (x i) (Ideal.ofBits .f32 0x7F800000#32) = 1#1 := by
    refine Eq.trans ?_ e
    unfold Cert.Pre_inputs_below_inf.fn
    dsimp only
    rw [cmpf_apply, broadcastInDim_scalar_apply]
    rfl
  rw [word_top] at e'
  intro ht
  rw [ht] at e'
  simp [Ideal.cmp] at e'

/-- The reference's first result, row by row. -/
theorem ref_spikes (x : FVec Ideal Cert.ReferenceIdeal.S128x100000 .f32) (n u : FVec Ideal Cert.ReferenceIdeal.S128x1 .f32)
    (d : FVec Ideal Cert.ReferenceIdeal.S128 .f32) (hx : ∀ i, x i ≠ ⊤) : Ref.spikes x n u d = Ker.resSpike x n u d := by
  funext i
  obtain ⟨r, j, rfl⟩ : ∃ (r : Fin 128) (j : Fin 100000), i = ix2 r j := ⟨i 0, i 1, eq_ix2 i⟩
  exact Ref.spikes_apply x n u d r j fun k => hx _

/-- The reference's second result, row by row. -/
theorem ref_inhibition (x : FVec Ideal Cert.ReferenceIdeal.S128x100000 .f32) (n u : FVec Ideal Cert.ReferenceIdeal.S128x1 .f32)
    (hx : ∀ i, x i ≠ ⊤) : Ref.inhibition2 x n u = Ker.resInhibition x n u := by
  funext i
  obtain ⟨r, k, rfl⟩ : ∃ (r : Fin 128) (k : Fin 1), i = ix2 r k := ⟨i 0, i 1, eq_ix2 i⟩
  obtain rfl : k = 0 := Subsingleton.elim _ _
  exact Ref.inhibition2_apply x n u r fun k => hx _

/-- The reference's third result, row by row. -/
theorem ref_noise (n n2 : FVec Ideal Cert.ReferenceIdeal.S128x1 .f32) : Ref.noise2 n n2 = Ker.resNoise n n2 := by
  funext i
  obtain ⟨r, k, rfl⟩ : ∃ (r : Fin 128) (k : Fin 1), i = ix2 r k := ⟨i 0, i 1, eq_ix2 i⟩
  obtain rfl : k = 0 := Subsingleton.elim _ _
  exact Ref.noise2_apply n n2 r

/-- The kernel and the reference, on the same arguments, end with the same three results. -/
theorem same_results : Cert.algebraic_KernelIdeal_ReferenceIdeal_pre_inputs_below_inf
    (hKernelIdeal := Cert.KernelIdeal.Gen.facts) (hReferenceIdeal := Cert.ReferenceIdeal.Gen.facts) (hPre_inputs_below_inf := below_facts) := by
  intro m g m' g' hpre hargs
  have hx : ∀ c i, Ker.argX m c i ≠ ⊤ := fun c i => below_inf _ _ _ _ _ (hpre c) i
  refine ⟨fun c => Ker.resSpike (Ker.argX m c) (Ker.argN m c) (Ker.argU m c) (Ker.argD m c),
    fun c => Ker.resInhibition (Ker.argX m c) (Ker.argN m c) (Ker.argU m c),
    fun c => Ker.resNoise (Ker.argN m c) (Ker.argN2 m c), ?_, ?_⟩
  · exact (θ_run Cert.KernelIdeal.defs _ _).mono (fun r h c => ⟨(h c).1.trans (Ker.final5 m c (hx c)),
      (h c).2.1.trans (Ker.final6 m c (hx c)), (h c).2.2.1.trans (Ker.final7 m c), (h c).2.2.2⟩)
      (Cert.KernelIdeal.Value.run_blocks m g)
  · refine (θ_run Cert.ReferenceIdeal.defs _ _).mono (fun r h c => ?_) (Ref.ref_run m' g')
    obtain ⟨h0, h1, h2, hk⟩ := h c
    obtain ⟨a0, a1, a2, a3, a4⟩ := hargs c
    refine ⟨h0.trans ?_, h1.trans ?_, h2.trans ?_, hk⟩
    · rw [a0, a1, a2, a3]
      exact ref_spikes _ _ _ _ (hx c)
    · rw [a0, a1, a2]
      exact ref_inhibition _ _ _ (hx c)
    · rw [a1, a4]
      exact ref_noise _ _

end OU

end
-- ==== Proof.lean ====
/- The claims about the kernel, put together: every program runs to its end and keeps its arguments, the kernel at the
   ideal values is the kernel printed, and it computes what the reference computes. -/
module

public import proofs.«01_k».proof.Defs
public import proofs.«01_k».proof.Proof.Gen.Kernel.Frame
public import proofs.«01_k».proof.Proof.Equation

@[expose] public section

noncomputable section

namespace Cert.Proof

open Idealize.ShloMosaic Idealize.SL.Sem

/-- The kernel runs to its end over floating-point words and keeps its arguments. -/
theorem frame_kernel : Cert.quiescent_Kernel (hKernel := Cert.Kernel.Gen.facts) := fun m g _ => Cert.Kernel.Gen.frame m g

/-- The kernel runs to its end at the ideal values and keeps its arguments. -/
theorem frame_ideal : Cert.quiescent_KernelIdeal (hKernelIdeal := Cert.KernelIdeal.Gen.facts) := fun m g _ => Cert.KernelIdeal.Gen.frame m g

/-- So it does from the memories of the value claim. -/
theorem frame_ideal_pre : Cert.quiescent_KernelIdeal_pre_inputs_below_inf (hKernelIdeal := Cert.KernelIdeal.Gen.facts)
    (hPre_inputs_below_inf := OU.below_facts) := fun m g _ => Cert.KernelIdeal.Gen.frame m g

/-- The reference runs to its end and keeps its arguments. -/
theorem frame_reference : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (OU.Ref.ref_run m g)

/-- So it does from the memories of the value claim. -/
theorem frame_reference_pre : Cert.quiescent_ReferenceIdeal_pre_inputs_below_inf (hReferenceIdeal := Cert.ReferenceIdeal.Gen.facts)
    (hPre_inputs_below_inf := OU.below_facts) := fun m g _ => frame_reference m g trivial

/-- The kernel at the ideal values is the kernel printed, its two constants at the numbers they stand for. -/
theorem kept : Cert.preserves_Kernel_KernelIdeal :=
  ⟨IdealRules.named_const.statement Cert.KernelIdeal.κ "inhibition1" .f32 0x42B544ED#32 _ rfl,
    IdealRules.named_const.statement Cert.KernelIdeal.κ "decay" .f32 0x3F519857#32 _ rfl⟩

theorem claim : Cert.Claim :=
  ⟨Cert.Kernel.Gen.facts, Cert.KernelIdeal.Gen.facts, Cert.ReferenceIdeal.Gen.facts, OU.below_facts,
    frame_kernel, frame_ideal, frame_ideal_pre, frame_reference, frame_reference_pre, kept, OU.same_results⟩

end Cert.Proof

end
